-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_biases [hPre_biases : Cert.Pre_biases.Facts] (m : (ℓ : Loc Cert.KernelIdeal.nD Cert.KernelIdeal.τ Cert.KernelIdeal.sig) → Buf (Elt Ideal) ℓ) : Prop :=
  ∀ c : Dev Cert.KernelIdeal.nD,
    (Cert.Pre_biases.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_biases [hPre_biases : Cert.Pre_biases.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_biases.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_biases [hKernelIdeal : Cert.KernelIdeal.Facts] [hPre_biases : Cert.Pre_biases.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_biases m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_biases [hReferenceIdeal : Cert.ReferenceIdeal.Facts] [hPre_biases : Cert.Pre_biases.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_biases m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal_pre_biases [hKernelIdeal : Cert.KernelIdeal.Facts] [hReferenceIdeal : Cert.ReferenceIdeal.Facts] [hPre_biases : Cert.Pre_biases.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_biases m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_biases : Cert.Pre_biases.Facts),
    quiescent_Kernel (hKernel := hKernel)
    ∧ quiescent_KernelIdeal (hKernelIdeal := hKernelIdeal)
    ∧ quiescent_KernelIdeal_pre_biases (hKernelIdeal := hKernelIdeal) (hPre_biases := hPre_biases)
    ∧ quiescent_ReferenceIdeal (hReferenceIdeal := hReferenceIdeal)
    ∧ quiescent_ReferenceIdeal_pre_biases (hReferenceIdeal := hReferenceIdeal) (hPre_biases := hPre_biases)
    ∧ preserves_Kernel_KernelIdeal
    ∧ algebraic_KernelIdeal_ReferenceIdeal_pre_biases (hKernelIdeal := hKernelIdeal) (hReferenceIdeal := hReferenceIdeal) (hPre_biases := hPre_biases)
-- ==== Pre_biases.lean ====
abbrev S16384x1024 : Shape := ⟨2, ![16384, 1024]⟩
abbrev S1 : Shape := ⟨1, ![1]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S256x1 : Shape := ⟨2, ![256, 1]⟩
abbrev S512x2 : Shape := ⟨2, ![512, 2]⟩
abbrev S2 : Shape := ⟨1, ![2]⟩
abbrev S_ : Shape := ⟨0, ![]⟩

class Facts : Prop where
  bcast_S_S512 : S_.BroadcastsInDim S512 (![] : Fin 0 → Fin S512.rank)
  reducesTo_S512_S_d0 : S512.ReducesTo [0] S_
  h_S_ : 0 < S_.numel
  bcast_S_S256 : S_.BroadcastsInDim S256 (![] : Fin 0 → Fin S256.rank)
  reducesTo_S256_S_d0 : S256.ReducesTo [0] S_
  bcast_S_S2 : S_.BroadcastsInDim S2 (![] : Fin 0 → Fin S2.rank)
  reducesTo_S2_S_d0 : S2.ReducesTo [0] S_
  bcast_S_S1 : S_.BroadcastsInDim S1 (![] : Fin 0 → Fin S1.rank)
  reducesTo_S1_S_d0 : S1.ReducesTo [0] S_
  bcast_S_S256x1 : S_.BroadcastsInDim S256x1 (![] : Fin 0 → Fin S256x1.rank)
  reducesTo_S256x1_S_d0_1 : S256x1.ReducesTo [0, 1] S_

variable [Facts]

def fn_part1 {F : FTy → Type} [FloatOps F] (main_arg8 : FVec F S256x1 .f32) (main_arg9 : FVec F S1 .f32) (main_v14 : IVec S_ 1) (main_cst_6 : FVec F S_ .f32) : IVec S_ 1 :=
  let main_v15 : FVec F S1 .f32 := broadcastInDim S1 ![] bcast_S_S1 main_cst_6
  let main_v16 : IVec S1 1 := cmpf .ogt main_arg9 main_v15
  let main_cst_7 : FVec F S_ .f32 := constant S_ .f32 0x7F800000#32
  let main_v17 : FVec F S1 .f32 := broadcastInDim S1 ![] bcast_S_S1 main_cst_7
  let main_v18 : IVec S1 1 := cmpf .olt main_arg9 main_v17
  let main_v19 : IVec S1 1 := andi main_v16 main_v18
  let main_c_8 : IVec S_ 1 := constantI S_ 1 1#1
  let main_v20 : IVec S_ 1 := (fun x v => Host.reduce IntOp.andi x v reducesTo_S1_S_d0 h_S_) main_v19 main_c_8
  let main_v21 : IVec S_ 1 := andi main_v14 main_v20
  let main_cst_9 : FVec F S_ .f32 := constant S_ .f32 0xFF800000#32
  let main_v22 : FVec F S256x1 .f32 := broadcastInDim S256x1 ![] bcast_S_S256x1 main_cst_9
  let main_v23 : IVec S256x1 1 := cmpf .ogt main_arg8 main_v22
  let main_cst_10 : FVec F S_ .f32 := constant S_ .f32 0x7F800000#32
  let main_v24 : FVec F S256x1 .f32 := broadcastInDim S256x1 ![] bcast_S_S256x1 main_cst_10
  let main_v25 : IVec S256x1 1 := cmpf .olt main_arg8 main_v24
  let main_v26 : IVec S256x1 1 := andi main_v23 main_v25
  let main_c_11 : IVec S_ 1 := constantI S_ 1 1#1
  let main_v27 : IVec S_ 1 := (fun x v => Host.reduce IntOp.andi x v reducesTo_S256x1_S_d0_1 h_S_) main_v26 main_c_11
  let main_v28 : IVec S_ 1 := andi main_v21 main_v27
  main_v28

def fn {F : FTy → Type} [FloatOps F] (main_arg0 : FVec F S16384x1024 .f32) (main_arg1 : IVec S1 32) (main_arg2 : FVec F S1024x512 .f32) (main_arg3 : FVec F S512 .f32) (main_arg4 : FVec F S512x256 .f32) (main_arg5 : FVec F S256 .f32) (main_arg6 : FVec F S512x256 .f32) (main_arg7 : FVec F S256 .f32) (main_arg8 : FVec F S256x1 .f32) (main_arg9 : FVec F S1 .f32) (main_arg10 : FVec F S512x2 .f32) (main_arg11 : FVec F S2 .f32) (main_arg12 : FVec F S512x2 .f32) (main_arg13 : FVec F S2 .f32) (main_arg14 : FVec F S512x2 .f32) (main_arg15 : FVec F S2 .f32) : IVec S_ 1 :=
  let main_cst : FVec F S_ .f32 := constant S_ .f32 0x00000000#32
  let main_v0 : FVec F S512 .f32 := broadcastInDim S512 ![] bcast_S_S512 main_cst
  let main_v1 : IVec S512 1 := cmpf .oeq main_arg3 main_v0
  let main_c : IVec S_ 1 := constantI S_ 1 1#1
  let main_v2 : IVec S_ 1 := (fun x v => Host.reduce IntOp.andi x v reducesTo_S512_S_d0 h_S_) main_v1 main_c
  let main_cst_0 : FVec F S_ .f32 := constant S_ .f32 0x00000000#32
  let main_v3 : FVec F S256 .f32 := broadcastInDim S256 ![] bcast_S_S256 main_cst_0
  let main_v4 : IVec S256 1 := cmpf .oeq main_arg5 main_v3
  let main_c_1 : IVec S_ 1 := constantI S_ 1 1#1
  let main_v5 : IVec S_ 1 := (fun x v => Host.reduce IntOp.andi x v reducesTo_S256_S_d0 h_S_) main_v4 main_c_1
  let main_v6 : IVec S_ 1 := andi main_v2 main_v5
  let main_cst_2 : FVec F S_ .f32 := constant S_ .f32 0x00000000#32
  let main_v7 : FVec F S256 .f32 := broadcastInDim S256 ![] bcast_S_S256 main_cst_2
  let main_v8 : IVec S256 1 := cmpf .oeq main_arg7 main_v7
  let main_c_3 : IVec S_ 1 := constantI S_ 1 1#1
  let main_v9 : IVec S_ 1 := (fun x v => Host.reduce IntOp.andi x v reducesTo_S256_S_d0 h_S_) main_v8 main_c_3
  let main_v10 : IVec S_ 1 := andi main_v6 main_v9
  let main_cst_4 : FVec F S_ .f32 := constant S_ .f32 0x00000000#32
  let main_v11 : FVec F S2 .f32 := broadcastInDim S2 ![] bcast_S_S2 main_cst_4
  let main_v12 : IVec S2 1 := cmpf .oeq main_arg11 main_v11
  let main_c_5 : IVec S_ 1 := constantI S_ 1 1#1
  let main_v13 : IVec S_ 1 := (fun x v => Host.reduce IntOp.andi x v reducesTo_S2_S_d0 h_S_) main_v12 main_c_5
  let main_v14 : IVec S_ 1 := andi main_v10 main_v13
  let main_cst_6 : FVec F S_ .f32 := constant S_ .f32 0xFF800000#32
  fn_part1 (F := F) main_arg8 main_arg9 main_v14 main_cst_6
-- ==== Kernel.lean ====
abbrev S16384x1024 : Shape := ⟨2, ![16384, 1024]⟩
abbrev S1 : Shape := ⟨1, ![1]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S256x1 : Shape := ⟨2, ![256, 1]⟩
abbrev S512x2 : Shape := ⟨2, ![512, 2]⟩
abbrev S2 : Shape := ⟨1, ![2]⟩
abbrev S512x512 : Shape := ⟨2, ![512, 512]⟩
abbrev S1x256 : Shape := ⟨2, ![1, 256]⟩
abbrev S8x2x512 : Shape := ⟨3, ![8, 2, 512]⟩
abbrev S8x2x128 : Shape := ⟨3, ![8, 2, 128]⟩
abbrev S1024x1024 : Shape := ⟨2, ![1024, 1024]⟩
abbrev S1x2x512 : Shape := ⟨3, ![1, 2, 512]⟩
abbrev S1x2x128 : Shape := ⟨3, ![1, 2, 128]⟩
abbrev S1024x256 : Shape := ⟨2, ![1024, 256]⟩
abbrev S1x1024 : Shape := ⟨2, ![1, 1024]⟩
abbrev S1x1x1024 : Shape := ⟨3, ![1, 1, 1024]⟩
abbrev S1x1x1 : Shape := ⟨3, ![1, 1, 1]⟩
abbrev S1x512 : Shape := ⟨2, ![1, 512]⟩
abbrev S1x1x512 : Shape := ⟨3, ![1, 1, 512]⟩
abbrev S1x1x128 : Shape := ⟨3, ![1, 1, 128]⟩
abbrev S1x2 : Shape := ⟨2, ![1, 2]⟩
abbrev S16x512 : Shape := ⟨2, ![16, 512]⟩
abbrev S16x128 : Shape := ⟨2, ![16, 128]⟩
abbrev S16x1 : Shape := ⟨2, ![16, 1]⟩
abbrev S1x16x1 : Shape := ⟨3, ![1, 16, 1]⟩
abbrev S1x1x2 : Shape := ⟨3, ![1, 1, 2]⟩

abbrev nBuf : Space → Nat
  | .hbm => 25
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S1, .i32⟩
  | .hbm, ⟨2, _⟩ => ⟨S1024x512, .f32⟩
  | .hbm, ⟨3, _⟩ => ⟨S512, .f32⟩
  | .hbm, ⟨4, _⟩ => ⟨S512x256, .f32⟩
  | .hbm, ⟨5, _⟩ => ⟨S256, .f32⟩
  | .hbm, ⟨6, _⟩ => ⟨S512x256, .f32⟩
  | .hbm, ⟨7, _⟩ => ⟨S256, .f32⟩
  | .hbm, ⟨8, _⟩ => ⟨S256x1, .f32⟩
  | .hbm, ⟨9, _⟩ => ⟨S1, .f32⟩
  | .hbm, ⟨10, _⟩ => ⟨S512x2, .f32⟩
  | .hbm, ⟨11, _⟩ => ⟨S2, .f32⟩
  | .hbm, ⟨12, _⟩ => ⟨S512x2, .f32⟩
  | .hbm, ⟨13, _⟩ => ⟨S2, .f32⟩
  | .hbm, ⟨14, _⟩ => ⟨S512x2, .f32⟩
  | .hbm, ⟨15, _⟩ => ⟨S2, .f32⟩
  | .hbm, ⟨16, _⟩ => ⟨S1024x512, .bf16⟩
  | .hbm, ⟨17, _⟩ => ⟨S512x512, .f32⟩
  | .hbm, ⟨18, _⟩ => ⟨S512x512, .bf16⟩
  | .hbm, ⟨19, _⟩ => ⟨S1x256, .f32⟩
  | .hbm, ⟨20, _⟩ => ⟨S1x256, .bf16⟩
  | .hbm, ⟨21, _⟩ => ⟨S8x2x512, .f32⟩
  | .hbm, ⟨22, _⟩ => ⟨S8x2x128, .f32⟩
  | .hbm, ⟨23, _⟩ => ⟨S8x2x128, .f32⟩
  | .hbm, ⟨24, _⟩ => ⟨S1x2, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x512, .bf16⟩
  | .local _ .vmem, ⟨5, _⟩ => ⟨S512x512, .bf16⟩
  | .local _ .vmem, ⟨6, _⟩ => ⟨S1x256, .bf16⟩
  | .local _ .vmem, ⟨7, _⟩ => ⟨S1x2x512, .f32⟩
  | .local _ .vmem, ⟨8, _⟩ => ⟨S1x2x512, .f32⟩
  | .local _ .vmem, ⟨9, _⟩ => ⟨S1x2x128, .f32⟩
  | .local _ .vmem, ⟨10, _⟩ => ⟨S1x2x128, .f32⟩
  | .local _ .vmem, ⟨11, _⟩ => ⟨S1x2x128, .f32⟩
  | .local _ .vmem, ⟨12, _⟩ => ⟨S1x2x128, .f32⟩
  | .local _ .vmem, ⟨13, _⟩ => ⟨S8x2x512, .f32⟩
  | .local _ .vmem, ⟨14, _⟩ => ⟨S8x2x128, .f32⟩
  | .local _ .vmem, ⟨15, _⟩ => ⟨S8x2x128, .f32⟩
  | .local _ .vmem, ⟨16, _⟩ => ⟨S512x2, .f32⟩
  | .local _ .vmem, ⟨17, _⟩ => ⟨S1x2, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5_0 : Ref sig .tc := ⟨.hbm, 21, rfl⟩
abbrev main_v5_1 : Ref sig .tc := ⟨.hbm, 22, rfl⟩
abbrev main_v5_2 : Ref sig .tc := ⟨.hbm, 23, rfl⟩
abbrev main_v6 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem1_0 : DmaSem sig := 14
abbrev cc1_sem2_0 : DmaSem sig := 15
abbrev cc1_sem3_0 : DmaSem sig := 16
abbrev cc1_sem4_0 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x2x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x2x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := .none

abbrev stage1_0 : Fin 1 → Memref sig .tc .vmem S8x2x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S8x2x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S8x2x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S512x2 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x2 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
-- ==== ReferenceIdeal.lean ====
abbrev S16384x1024 : Shape := ⟨2, ![16384, 1024]⟩
abbrev S1 : Shape := ⟨1, ![1]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S256x1 : Shape := ⟨2, ![256, 1]⟩
abbrev S512x2 : Shape := ⟨2, ![512, 2]⟩
abbrev S2 : Shape := ⟨1, ![2]⟩
abbrev S16384x512 : Shape := ⟨2, ![16384, 512]⟩
abbrev S1x512 : Shape := ⟨2, ![1, 512]⟩
abbrev S_ : Shape := ⟨0, ![]⟩
abbrev S16384x256 : Shape := ⟨2, ![16384, 256]⟩
abbrev S1x256 : Shape := ⟨2, ![1, 256]⟩
abbrev S16384x1 : Shape := ⟨2, ![16384, 1]⟩
abbrev S1x1 : Shape := ⟨2, ![1, 1]⟩
abbrev S1x16384 : Shape := ⟨2, ![1, 16384]⟩
abbrev S1x2 : Shape := ⟨2, ![1, 2]⟩

abbrev nBuf : Space → Nat
  | .hbm => 78
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1, .i32⟩
  | .hbm, ⟨2, _⟩ => ⟨S1024x512, .f32⟩
  | .hbm, ⟨3, _⟩ => ⟨S512, .f32⟩
  | .hbm, ⟨4, _⟩ => ⟨S512x256, .f32⟩
  | .hbm, ⟨5, _⟩ => ⟨S256, .f32⟩
  | .hbm, ⟨6, _⟩ => ⟨S512x256, .f32⟩
  | .hbm, ⟨7, _⟩ => ⟨S256, .f32⟩
  | .hbm, ⟨8, _⟩ => ⟨S256x1, .f32⟩
  | .hbm, ⟨9, _⟩ => ⟨S1, .f32⟩
  | .hbm, ⟨10, _⟩ => ⟨S512x2, .f32⟩
  | .hbm, ⟨11, _⟩ => ⟨S2, .f32⟩
  | .hbm, ⟨12, _⟩ => ⟨S512x2, .f32⟩
  | .hbm, ⟨13, _⟩ => ⟨S2, .f32⟩
  | .hbm, ⟨14, _⟩ => ⟨S512x2, .f32⟩
  | .hbm, ⟨15, _⟩ => ⟨S2, .f32⟩
  | .hbm, ⟨16, _⟩ => ⟨S16384x512, .f32⟩
  | .hbm, ⟨17, _⟩ => ⟨S1x512, .f32⟩
  | .hbm, ⟨18, _⟩ => ⟨S16384x512, .f32⟩
  | .hbm, ⟨19, _⟩ => ⟨S16384x512, .f32⟩
  | .hbm, ⟨20, _⟩ => ⟨S_, .f32⟩
  | .hbm, ⟨21, _⟩ => ⟨S16384x512, .f32⟩
  | .hbm, ⟨22, _⟩ => ⟨S16384x512, .f32⟩
  | .hbm, ⟨23, _⟩ => ⟨S16384x256, .f32⟩
  | .hbm, ⟨24, _⟩ => ⟨S1x256, .f32⟩
  | .hbm, ⟨25, _⟩ => ⟨S16384x256, .f32⟩
  | .hbm, ⟨26, _⟩ => ⟨S16384x256, .f32⟩
  | .hbm, ⟨27, _⟩ => ⟨S16384x256, .f32⟩
  | .hbm, ⟨28, _⟩ => ⟨S16384x256, .f32⟩
  | .hbm, ⟨29, _⟩ => ⟨S1x256, .f32⟩
  | .hbm, ⟨30, _⟩ => ⟨S16384x256, .f32⟩
  | .hbm, ⟨31, _⟩ => ⟨S16384x256, .f32⟩
  | .hbm, ⟨32, _⟩ => ⟨S16384x256, .f32⟩
  | .hbm, ⟨33, _⟩ => ⟨S16384x256, .f32⟩
  | .hbm, ⟨34, _⟩ => ⟨S_, .f32⟩
  | .hbm, ⟨35, _⟩ => ⟨S16384x256, .f32⟩
  | .hbm, ⟨36, _⟩ => ⟨S16384x256, .f32⟩
  | .hbm, ⟨37, _⟩ => ⟨S_, .f32⟩
  | .hbm, ⟨38, _⟩ => ⟨S16384x256, .f32⟩
  | .hbm, ⟨39, _⟩ => ⟨S16384x256, .f32⟩
  | .hbm, ⟨40, _⟩ => ⟨S16384x256, .f32⟩
  | .hbm, ⟨41, _⟩ => ⟨S16384x1, .f32⟩
  | .hbm, ⟨42, _⟩ => ⟨S1x1, .f32⟩
  | .hbm, ⟨43, _⟩ => ⟨S16384x1, .f32⟩
  | .hbm, ⟨44, _⟩ => ⟨S16384x1, .f32⟩
  | .hbm, ⟨45, _⟩ => ⟨S1x16384, .f32⟩
  | .hbm, ⟨46, _⟩ => ⟨S_, .f32⟩
  | .hbm, ⟨47, _⟩ => ⟨S1, .f32⟩
  | .hbm, ⟨48, _⟩ => ⟨S_, .f32⟩
  | .hbm, ⟨49, _⟩ => ⟨S1, .f32⟩
  | .hbm, ⟨50, _⟩ => ⟨S1, .f32⟩
  | .hbm, ⟨51, _⟩ => ⟨S1x1, .f32⟩
  | .hbm, ⟨52, _⟩ => ⟨S1x16384, .f32⟩
  | .hbm, ⟨53, _⟩ => ⟨S1x16384, .f32⟩
  | .hbm, ⟨54, _⟩ => ⟨S1x16384, .f32⟩
  | .hbm, ⟨55, _⟩ => ⟨S_, .f32⟩
  | .hbm, ⟨56, _⟩ => ⟨S1, .f32⟩
  | .hbm, ⟨57, _⟩ => ⟨S1x1, .f32⟩
  | .hbm, ⟨58, _⟩ => ⟨S1x16384, .f32⟩
  | .hbm, ⟨59, _⟩ => ⟨S1x16384, .f32⟩
  | .hbm, ⟨60, _⟩ => ⟨S1x512, .f32⟩
  | .hbm, ⟨61, _⟩ => ⟨S1x2, .f32⟩
  | .hbm, ⟨62, _⟩ => ⟨S1x2, .f32⟩
  | .hbm, ⟨63, _⟩ => ⟨S1x2, .f32⟩
  | .hbm, ⟨64, _⟩ => ⟨S_, .f32⟩
  | .hbm, ⟨65, _⟩ => ⟨S1, .f32⟩
  | .hbm, ⟨66, _⟩ => ⟨S_, .f32⟩
  | .hbm, ⟨67, _⟩ => ⟨S1, .f32⟩
  | .hbm, ⟨68, _⟩ => ⟨S1, .f32⟩
  | .hbm, ⟨69, _⟩ => ⟨S1x1, .f32⟩
  | .hbm, ⟨70, _⟩ => ⟨S1x2, .f32⟩
  | .hbm, ⟨71, _⟩ => ⟨S1x2, .f32⟩
  | .hbm, ⟨72, _⟩ => ⟨S1x2, .f32⟩
  | .hbm, ⟨73, _⟩ => ⟨S_, .f32⟩
  | .hbm, ⟨74, _⟩ => ⟨S1, .f32⟩
  | .hbm, ⟨75, _⟩ => ⟨S1x1, .f32⟩
  | .hbm, ⟨76, _⟩ => ⟨S1x2, .f32⟩
  | .hbm, ⟨77, _⟩ => ⟨S1x2, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_call0_cst : Ref sig .tc := ⟨.hbm, 20, rfl⟩
abbrev main_call0_v0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst : Ref sig .tc := ⟨.hbm, 34, rfl⟩
abbrev main_v16 : Ref sig .tc := ⟨.hbm, 35, rfl⟩
abbrev main_v17 : Ref sig .tc := ⟨.hbm, 36, rfl⟩
abbrev main_cst_0 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_1 : Ref sig .tc := ⟨.hbm, 46, rfl⟩
abbrev main_v26 : Ref sig .tc := ⟨.hbm, 47, rfl⟩
abbrev main_cst_2 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_3 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_4 : Ref sig .tc := ⟨.hbm, 64, rfl⟩
abbrev main_v41 : Ref sig .tc := ⟨.hbm, 65, rfl⟩
abbrev main_cst_5 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_6 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩

abbrev nD : Nat := 1
abbrev τ : Topo := Topo.v7x

variable {F : FTy → Type} [FloatOps F]
-- ==== Proof.Mix.lean ====
/-
  THE EQUATION, without arrays: a weighted mean whose weights are the softmax of finite scores may be taken chunk by
  chunk. Each chunk weighs its own rows against its own largest score; the chunks are then put together with one more
  factor, the exponential of what the chunk's largest score lacks to the largest of all.
  The values averaged are at least 0 and may be +∞; the scores are real.
-/
module

public import Idealize.ShloMosaic.Lib.Pointwise

@[expose] public section

noncomputable section

open Idealize.ShloMosaic

namespace Cert.Mix

/-- The word of −∞ denotes the least extended real. -/
theorem ofBits_negInf : Ideal.ofBits .f32 0xFF800000#32 = (⊥ : EReal) := by
  simp [Ideal.ofBits, Ideal.ieee]

/-- The word of +∞ denotes the greatest extended real. -/
theorem ofBits_posInf : Ideal.ofBits .f32 0x7F800000#32 = (⊤ : EReal) := by
  simp [Ideal.ofBits, Ideal.ieee]

/-- An extended real that is a real number. -/
def IsReal (x : EReal) : Prop := ∃ t : ℝ, x = (t : EReal)

theorem IsReal.add {x y : EReal} : IsReal x → IsReal y → IsReal (x + y) := by
  rintro ⟨a, rfl⟩ ⟨b, rfl⟩; exact ⟨a + b, (EReal.coe_add a b).symm⟩

theorem IsReal.mul {x y : EReal} : IsReal x → IsReal y → IsReal (x * y) := by
  rintro ⟨a, rfl⟩ ⟨b, rfl⟩; exact ⟨a * b, (EReal.coe_mul a b).symm⟩

theorem IsReal.sum {ι : Type*} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact (h a (by simp)).add (ih fun i hi => h i (by simp [hi]))

/-- The hyperbolic tangent is real, at the infinities too. -/
theorem isReal_tanh (x : EReal) : IsReal (Ideal.tanh x) := by
  induction x using EReal.rec with
  | bot => exact ⟨-1, rfl⟩
  | top => exact ⟨1, rfl⟩
  | coe r => exact ⟨Real.tanh r, rfl⟩

/-- The logistic function is real, at the infinities too. -/
theorem isReal_logistic (x : EReal) : IsReal (Ideal.logistic x) := by
  induction x using EReal.rec with
  | bot => exact ⟨0, by simp⟩
  | top => exact ⟨1, by simp⟩
  | coe r => exact ⟨_, Ideal.logistic_coe r⟩

/-- The largest of finitely many extended reals is one of them. -/
theorem sup_attained {ι : Type*} [Fintype ι] [Nonempty ι] (f : ι → EReal) : ∃ i, Finset.univ.sup f = f i := by
  obtain ⟨i, -, h⟩ := Finset.exists_mem_eq_sup Finset.univ Finset.univ_nonempty f
  exact ⟨i, h⟩

/-- Folding the maximum from −∞ gives the largest. -/
theorem fold_max {ι : Type*} [Fintype ι] (f : ι → EReal) : Finset.univ.fold max ⊥ f = Finset.univ.sup f := rfl

/-- The largest over pairs whose first member can only be 0 is the largest over the second member. -/
theorem fold_max_pair {n : ℕ} (f : Fin n → EReal) :
    Finset.univ.fold max ⊥ (fun x : Fin 1 × Fin n => f x.2) = Finset.univ.sup f := by
  rw [fold_max]
  exact le_antisymm (Finset.sup_le fun x _ => Finset.le_sup (f := f) (Finset.mem_univ x.2))
    (Finset.sup_le fun r _ => Finset.le_sup (f := fun x : Fin 1 × Fin n => f x.2) (Finset.mem_univ (0, r)))

/-- The same where the second member can only be 0. -/
theorem fold_max_pair' {n : ℕ} (f : Fin n → EReal) :
    Finset.univ.fold max ⊥ (fun x : Fin n × Fin 1 => f x.1) = Finset.univ.sup f := by
  rw [fold_max]
  exact le_antisymm (Finset.sup_le fun x _ => Finset.le_sup (f := f) (Finset.mem_univ x.1))
    (Finset.sup_le fun r _ => Finset.le_sup (f := fun x : Fin n × Fin 1 => f x.1) (Finset.mem_univ (r, 0)))

/-- A factor that is at least 0 goes into a sum of terms that are at least 0. -/
theorem mul_sum {ι : Type*} (s : Finset ι) (a : EReal) (f : ι → EReal) (hf : ∀ i ∈ s, 0 ≤ f i) :
    a * ∑ i ∈ s, f i = ∑ i ∈ s, a * f i := by
  classical
  induction s using Finset.induction_on with
  | empty => simp
  | insert b s hb ih =>
    have hs : ∀ i ∈ s, 0 ≤ f i := fun i hi => hf i (by simp [hi])
    rw [Finset.sum_insert hb, Finset.sum_insert hb,
      EReal.left_distrib_of_nonneg (hf b (by simp)) (Finset.sum_nonneg hs), ih hs]

/-- The coercion of a finite real sum. -/
theorem coe_sum {ι : Type*} (s : Finset ι) (f : ι → ℝ) : ((∑ i ∈ s, f i : ℝ) : EReal) = ∑ i ∈ s, (f i : EReal) := by
  classical
  induction s using Finset.induction_on with
  | empty => simp
  | insert b s hb ih => rw [Finset.sum_insert hb, Finset.sum_insert hb, EReal.coe_add, ih]

/-- Adding one real number to every score adds it to the largest. -/
theorem sup_add {ι : Type*} [Fintype ι] [Nonempty ι] (f : ι → EReal) (b : EReal) :
    Finset.univ.sup (fun i => f i + b) = Finset.univ.sup f + b := by
  apply le_antisymm
  · exact Finset.sup_le fun i _ => add_le_add (Finset.le_sup (f := f) (Finset.mem_univ i)) le_rfl
  · obtain ⟨i, h⟩ := sup_attained f
    rw [h]
    exact Finset.le_sup (f := fun i => f i + b) (Finset.mem_univ i)

/-- The softmax does not see a real number added to every score. -/
theorem add_sub_add {x y b : EReal} : IsReal x → IsReal y → IsReal b → x + b - (y + b) = x - y := by
  rintro ⟨x, rfl⟩ ⟨y, rfl⟩ ⟨b, rfl⟩
  rw [← EReal.coe_add, ← EReal.coe_add, ← EReal.coe_sub, ← EReal.coe_sub]
  congr 1
  ring

/-- The largest of all the scores is the largest of the chunks' largest scores. -/
theorem sup_chunks {C R : Type*} [Fintype C] [Fintype R] (s : C → R → EReal) :
    Finset.univ.sup (fun c => Finset.univ.sup (s c)) = Finset.univ.sup (fun p : C × R => s p.1 p.2) :=
  le_antisymm
    (Finset.sup_le fun c _ => Finset.sup_le fun r _ =>
      Finset.le_sup (f := fun p : C × R => s p.1 p.2) (Finset.mem_univ (c, r)))
    (Finset.sup_le fun p _ => (Finset.le_sup (f := s p.1) (Finset.mem_univ p.2)).trans
      (Finset.le_sup (f := fun c => Finset.univ.sup (s c)) (Finset.mem_univ p.1)))

/-- The chunked weighted mean is the weighted mean. -/
theorem pool {C R : Type*} [Fintype C] [Fintype R] [Nonempty C] [Nonempty R] (s x : C → R → EReal)
    (hs : ∀ c r, IsReal (s c r)) (hx : ∀ c r, 0 ≤ x c r) (m : C → EReal) (hm : ∀ c, m c = Finset.univ.sup (s c))
    (M : EReal) (hM : M = Finset.univ.sup (fun p : C × R => s p.1 p.2)) :
    Ideal.div (∑ c, Ideal.exp (m c - M) * ∑ r, Ideal.exp (s c r - m c) * x c r)
        (∑ c, Ideal.exp (m c - M) * ∑ r, Ideal.exp (s c r - m c))
      = ∑ p : C × R, Ideal.div (Ideal.exp (s p.1 p.2 - M)) (∑ q : C × R, Ideal.exp (s q.1 q.2 - M)) * x p.1 p.2 := by
  choose t ht using hs
  have hmr : ∀ c, ∃ u : ℝ, m c = (u : EReal) := fun c => by
    obtain ⟨r, h⟩ := sup_attained (s c)
    exact ⟨t c r, by rw [hm, h, ht]⟩
  choose u hu using hmr
  obtain ⟨v, hv⟩ : ∃ v : ℝ, M = (v : EReal) := by
    obtain ⟨p, h⟩ := sup_attained (fun p : C × R => s p.1 p.2)
    exact ⟨t p.1 p.2, by rw [hM, h, ht]⟩
  have e1 : ∀ c, Ideal.exp (m c - M) = ((Real.exp (u c - v) : ℝ) : EReal) := fun c => by
    rw [hu, hv, ← EReal.coe_sub, Ideal.exp_coe]
  have e2 : ∀ c r, Ideal.exp (s c r - m c) = ((Real.exp (t c r - u c) : ℝ) : EReal) := fun c r => by
    rw [hu, ht, ← EReal.coe_sub, Ideal.exp_coe]
  have e3 : ∀ c r, Ideal.exp (s c r - M) = ((Real.exp (t c r - v) : ℝ) : EReal) := fun c r => by
    rw [hv, ht, ← EReal.coe_sub, Ideal.exp_coe]
  have ee : ∀ c r, Real.exp (u c - v) * Real.exp (t c r - u c) = Real.exp (t c r - v) := fun c r => by
    rw [← Real.exp_add]; congr 1; ring
  simp only [e1, e2, e3]
  -- the two denominators are one positive real number
  set D : ℝ := ∑ q : C × R, Real.exp (t q.1 q.2 - v) with hD
  have hD0 : D ≠ 0 := ne_of_gt (Finset.sum_pos (fun q _ => Real.exp_pos _) Finset.univ_nonempty)
  have d1 : (∑ q : C × R, ((Real.exp (t q.1 q.2 - v) : ℝ) : EReal)) = (D : EReal) := (coe_sum _ _).symm
  have d2 : (∑ c, ((Real.exp (u c - v) : ℝ) : EReal) * ∑ r, ((Real.exp (t c r - u c) : ℝ) : EReal)) = (D : EReal) := by
    rw [← d1, Fintype.sum_prod_type]
    refine Finset.sum_congr rfl fun c _ => ?_
    rw [← coe_sum, ← EReal.coe_mul, ← coe_sum, Finset.mul_sum]
    exact congrArg _ (Finset.sum_congr rfl fun r _ => ee c r)
  rw [d1, d2, Ideal.div_coe hD0]
  simp only [Ideal.div_coe hD0]
  rw [Fintype.sum_prod_type, mul_comm, mul_sum]
  · refine Finset.sum_congr rfl fun c _ => ?_
    rw [← mul_assoc, mul_sum]
    · refine Finset.sum_congr rfl fun r _ => ?_
      show _ = ((Real.exp (t c r - v) : ℝ) : EReal) * ((1 / D : ℝ) : EReal) * x c r
      rw [← ee c r, EReal.coe_mul, ← mul_assoc]
      congr 1
      ac_rfl
    · exact fun r _ => mul_nonneg (EReal.coe_nonneg.mpr (Real.exp_pos _).le) (hx c r)
  · exact fun c _ => mul_nonneg (EReal.coe_nonneg.mpr (Real.exp_pos _).le)
      (Finset.sum_nonneg fun r _ => mul_nonneg (EReal.coe_nonneg.mpr (Real.exp_pos _).le) (hx c r))

/-- Row `r` of chunk `c`: the chunks are numbered grid point by grid point, and at each point first the chunk of the
    lower half of the rows, then the chunk of the upper half. -/
def row (c : Fin 16) (r : Fin 1024) : Fin 16384 := ⟨(c % 2 * 8 + c / 2) * 1024 + r, by omega⟩

/-- Every row is one row of one chunk. -/
theorem row_bijective : Function.Bijective fun p : Fin 16 × Fin 1024 => row p.1 p.2 := by
  constructor
  · rintro ⟨c, r⟩ ⟨c', r'⟩ h
    have h : (c.val % 2 * 8 + c.val / 2) * 1024 + r.val = (c'.val % 2 * 8 + c'.val / 2) * 1024 + r'.val := congrArg Fin.val h
    have : c.val = c'.val ∧ r.val = r'.val := by omega
    exact Prod.ext (Fin.ext this.1) (Fin.ext this.2)
  · intro n
    obtain ⟨a, ha⟩ : ∃ a, a = n.val / 1024 := ⟨_, rfl⟩
    have ha16 : a < 16 := by omega
    have h2 : (a % 8 * 2 + a / 8) % 2 = a / 8 := by omega
    have h3 : (a % 8 * 2 + a / 8) / 2 = a % 8 := by omega
    refine ⟨(⟨a % 8 * 2 + a / 8, by omega⟩, ⟨n % 1024, by omega⟩), Fin.ext ?_⟩
    show ((a % 8 * 2 + a / 8) % 2 * 8 + (a % 8 * 2 + a / 8) / 2) * 1024 + n.val % 1024 = n.val
    omega

/-- The chunked mean over the rows of the sixteen chunks is the weighted mean over all rows, whose scores may all be
    moved by one real number `b`. -/
theorem pool_rows (s x : Fin 16384 → EReal) (b : EReal) (hb : IsReal b) (hs : ∀ n, IsReal (s n)) (hx : ∀ n, 0 ≤ x n)
    (m : Fin 16 → EReal) (hm : ∀ c, m c = Finset.univ.sup fun r => s (row c r)) :
    Ideal.div (∑ c, Ideal.exp (m c - Finset.univ.sup m) * ∑ r, Ideal.exp (s (row c r) - m c) * x (row c r))
        (∑ c, Ideal.exp (m c - Finset.univ.sup m) * ∑ r, Ideal.exp (s (row c r) - m c))
      = ∑ n, Ideal.div (Ideal.exp (s n + b - Finset.univ.sup fun n => s n + b))
          (∑ n, Ideal.exp (s n + b - Finset.univ.sup fun n => s n + b)) * x n := by
  have hsup : Finset.univ.sup m = Finset.univ.sup (fun p : Fin 16 × Fin 1024 => s (row p.1 p.2)) := by
    rw [← sup_chunks fun c r => s (row c r)]
    exact congrArg _ (funext hm)
  have hall : Finset.univ.sup (fun p : Fin 16 × Fin 1024 => s (row p.1 p.2)) = Finset.univ.sup s := by
    apply le_antisymm
    · exact Finset.sup_le fun p _ => Finset.le_sup (f := s) (Finset.mem_univ _)
    · refine Finset.sup_le fun n _ => ?_
      obtain ⟨p, hp⟩ := row_bijective.2 n
      rw [← hp]
      exact Finset.le_sup (f := fun p : Fin 16 × Fin 1024 => s (row p.1 p.2)) (Finset.mem_univ p)
  have hS : IsReal (Finset.univ.sup s) := by
    obtain ⟨n, h⟩ := sup_attained s
    rw [h]; exact hs n
  have hmove : ∀ n, s n + b - Finset.univ.sup (fun n => s n + b) = s n - Finset.univ.sup s := fun n => by
    rw [sup_add, add_sub_add (hs n) hS hb]
  simp only [hmove]
  rw [pool (fun c r => s (row c r)) (fun c r => x (row c r)) (fun c r => hs _) (fun c r => hx _) m hm _ hsup, hsup, hall,
    row_bijective.sum_comp (fun n => Ideal.exp (s n - Finset.univ.sup s)),
    row_bijective.sum_comp (fun n => Ideal.div (Ideal.exp (s n - Finset.univ.sup s))
      (∑ n, Ideal.exp (s n - Finset.univ.sup s)) * x n)]

end Cert.Mix

end
-- ==== Proof.Pre.lean ====
/-
  THE PRECONDITION READ: the four dropped biases are zero, the score bias and every score weight are real numbers.
-/
module

public import proofs.«01_k».proof.Pre_biases
public import proofs.«01_k».proof.Proof.Mix
public import Idealize.ShloMosaic.Lib.ReduceAll

@[expose] public section

set_option maxRecDepth 16384

noncomputable section

open Idealize.ShloMosaic

namespace Cert.Pre_biases

/-- The predicate's stated shape relations hold. -/
theorem facts : Facts where
  bcast_S_S512 := by decide
  reducesTo_S512_S_d0 := by decide
  h_S_ := by decide
  bcast_S_S256 := by decide
  reducesTo_S256_S_d0 := by decide
  bcast_S_S2 := by decide
  reducesTo_S2_S_d0 := by decide
  bcast_S_S1 := by decide
  reducesTo_S1_S_d0 := by decide
  bcast_S_S256x1 := by decide
  reducesTo_S256x1_S_d0_1 := by decide

variable [Facts]

instance : Subsingleton S_.Idx := ⟨fun a b => funext fun x => x.elim0⟩

theorem and_one {a b : IVec S_ 1} {j : S_.Idx} : andi a b j = 1#1 → a j = 1#1 ∧ b j = 1#1 := IntOp.andi_eq_one.1

theorem ofBool_one {b : Bool} (h : BitVec.ofBool b = 1#1) : b = true := by
  cases b
  · exact absurd h (by decide)
  · rfl

/-- The comparison with a broadcast constant, at one element. -/
theorem of_oeq {x y : EReal} (h : Ideal.cmp .oeq x y = 1#1) : x = y := by
  exact of_decide_eq_true (ofBool_one h)

theorem of_ogt {x y : EReal} (h : Ideal.cmp .ogt x y = 1#1) : y < x := by
  exact of_decide_eq_true (ofBool_one h)

theorem of_olt {x y : EReal} (h : Ideal.cmp .olt x y = 1#1) : x < y := by
  exact of_decide_eq_true (ofBool_one h)

/-- What lies strictly between the infinities is a real number. -/
theorem isReal_of {x : EReal} (h0 : Ideal.ofBits .f32 0xFF800000#32 < x) (h1 : x < Ideal.ofBits .f32 0x7F800000#32) : Mix.IsReal x := by
  rw [Mix.ofBits_negInf] at h0
  rw [Mix.ofBits_posInf] at h1
  exact ⟨x.toReal, (EReal.coe_toReal h1.ne h0.ne').symm⟩

/-- The precondition, read element by element. -/
theorem read (a0 : FVec Ideal S16384x1024 .f32) (a1 : IVec S1 32) (a2 : FVec Ideal S1024x512 .f32) (a3 : FVec Ideal S512 .f32)
    (a4 : FVec Ideal S512x256 .f32) (a5 : FVec Ideal S256 .f32) (a6 : FVec Ideal S512x256 .f32) (a7 : FVec Ideal S256 .f32)
    (a8 : FVec Ideal S256x1 .f32) (a9 : FVec Ideal S1 .f32) (a10 : FVec Ideal S512x2 .f32) (a11 : FVec Ideal S2 .f32)
    (a12 : FVec Ideal S512x2 .f32) (a13 : FVec Ideal S2 .f32) (a14 : FVec Ideal S512x2 .f32) (a15 : FVec Ideal S2 .f32)
    (h : fn (F := Ideal) a0 a1 a2 a3 a4 a5 a6 a7 a8 a9 a10 a11 a12 a13 a14 a15 = fun _ => 1#1) :
    (∀ i, a3 i = (0 : EReal)) ∧ (∀ i, a5 i = (0 : EReal)) ∧ (∀ i, a7 i = (0 : EReal)) ∧ (∀ i, a11 i = (0 : EReal))
      ∧ (∀ i, Mix.IsReal (a9 i)) ∧ (∀ i, Mix.IsReal (a8 i)) := by
  have h := congrFun h ix0
  unfold fn fn_part1 at h
  obtain ⟨h, w8⟩ := and_one h
  obtain ⟨h, w9⟩ := and_one h
  obtain ⟨h, w11⟩ := and_one h
  obtain ⟨h, w7⟩ := and_one h
  obtain ⟨w3, w5⟩ := and_one h
  refine ⟨fun i => ?_, fun i => ?_, fun i => ?_, fun i => ?_, fun i => ?_, fun i => ?_⟩
  · exact (of_oeq (Host.reduce_andi_all _ _ _ _ _ w3 i)).trans Ideal.ofBits_zero_f32
  · exact (of_oeq (Host.reduce_andi_all _ _ _ _ _ w5 i)).trans Ideal.ofBits_zero_f32
  · exact (of_oeq (Host.reduce_andi_all _ _ _ _ _ w7 i)).trans Ideal.ofBits_zero_f32
  · exact (of_oeq (Host.reduce_andi_all _ _ _ _ _ w11 i)).trans Ideal.ofBits_zero_f32
  · obtain ⟨g0, g1⟩ := IntOp.andi_eq_one.1 (Host.reduce_andi_all _ _ _ _ _ w9 i)
    exact isReal_of (of_ogt g0) (of_olt g1)
  · obtain ⟨g0, g1⟩ := IntOp.andi_eq_one.1 (Host.reduce_andi_all _ _ _ _ _ w8 i)
    exact isReal_of (of_ogt g0) (of_olt g1)

end Cert.Pre_biases

end
-- ==== Proof.Run.lean ====
/-
  THE RUN of the program: every weakly fair execution ends, and every buffer that outlives the program ends at the
  contents the two launches leave (the last of the generated boundary contents).
-/
module

public import proofs.«01_k».proof.Proof.Gen.KernelIdeal.Frame

@[expose] public section

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cellOf)
open Cert.KernelIdeal Cert.KernelIdeal.Gen

variable {F : FTy → Type} [FloatOps F]
variable (m : (ℓ : Loc nD τ sig) → Buf (Elt F) ℓ) (ρ : Dev nD → PrngReg)

set_option backward.isDefEq.respectTransparency.types false in
/-- Every buffer of the TensorCore that outlives the program ends at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => h)

end Cert.KernelIdeal.Whole

end
-- ==== Proof.Chunk.lean ====
/-
  ONE CHUNK of the first launch: what the body computes from a block of 1024 rows of `h` and the three weight blocks.
  The body treats its two row blocks alike, so everything is said once, of one block.
-/
module

public import proofs.«01_k».proof.Proof.Gen.KernelIdeal.Skeleton
public import proofs.«01_k».proof.Proof.Gen.KernelIdeal
public import proofs.«01_k».proof.Proof.Mix

@[expose] public section

set_option maxRecDepth 16384

noncomputable section

open Idealize.ShloMosaic

namespace Cert.KernelIdeal.Chunk

open Cert.KernelIdeal Cert.KernelIdeal.Gen

variable (v0 : FVec Ideal S1024x1024 .f32) (v1 : FVec Ideal S1024x512 .bf16) (v7 : FVec Ideal S512x512 .bf16)
  (v17 : FVec Ideal S1x256 .bf16)

/-- Feature `k` of row `r` of the block: the rectified product with the first weight. -/
def feat (r : Fin 1024) (k : Fin 512) : EReal := max (∑ l : Fin 1024, v0 (ix2 r l) * v1 (ix2 l k)) 0

/-- The attention score of row `r` of the block. -/
def score (r : Fin 1024) : EReal :=
  ∑ q : Fin 256, v17 (ix2 0 q) * (Ideal.tanh (∑ k : Fin 512, feat v0 v1 r k * v7 (ix2 k ⟨q, by omega⟩))
    * Ideal.logistic (∑ k : Fin 512, feat v0 v1 r k * v7 (ix2 k ⟨256 + q, by omega⟩)))

theorem pay3_apply (r : Fin 1024) (k : Fin 512) : k0_pay3 (F := Ideal) v0 v1 (ix2 r k) = feat v0 v1 r k := by
  unfold feat
  pointwise [k0_pay3]

theorem pay4_apply (r : Fin 1024) : k0_pay4 (F := Ideal) v0 v1 v7 v17 (ix2 0 r) = score v0 v1 v7 v17 r := by
  unfold score
  pointwise [k0_pay4]
  simp only [pay3_apply]

/-- The largest score of the block, as the body folds it. -/
theorem pay5_eq : k0_pay5 (F := Ideal) v0 v1 v7 v17 = Finset.univ.sup (score v0 v1 v7 v17) := by
  pointwise [k0_pay5]
  rw [Mix.ofBits_negInf]
  simp only [pay4_apply]
  exact Mix.fold_max_pair _

/-- The unnormalised weight of row `r` of the block. -/
theorem pay6_apply (r : Fin 1024) : k0_pay6 (F := Ideal) v0 v1 v7 v17 (ix2 0 r)
    = Ideal.exp (score v0 v1 v7 v17 r - Finset.univ.sup (score v0 v1 v7 v17)) := by
  rw [← pay5_eq, ← pay4_apply]
  unfold k0_pay6
  pointwise

/-- The sum of the block's unnormalised weights. -/
theorem pay7_eq : k0_pay7 (F := Ideal) v0 v1 v7 v17
    = ∑ r, Ideal.exp (score v0 v1 v7 v17 r - Finset.univ.sup (score v0 v1 v7 v17)) := by
  pointwise [k0_pay7]
  simp only [pay6_apply]
  exact Fin.sum_univ_one _

/-- The block's features summed with the unnormalised weights. -/
theorem pay8_apply (k : Fin 512) : k0_pay8 (F := Ideal) v0 v1 v7 v17 (ix2 0 k)
    = ∑ r, Ideal.exp (score v0 v1 v7 v17 r - Finset.univ.sup (score v0 v1 v7 v17)) * feat v0 v1 r k := by
  pointwise [k0_pay8]
  simp only [pay3_apply, pay6_apply]

/-! The body's values from its second row block are those of its first, at that block. -/

theorem pay17_eq : k0_pay17 (k0_pay9 v0 v1) (k0_pay10 (F := Ideal)) v7 v17 = k0_pay16 (k0_pay8 v0 v1 v7 v17) := rfl
theorem pay19_eq : k0_pay19 (k0_pay9 v0 v1) (k0_pay10 (F := Ideal)) v7 v17 = k0_pay18 (k0_pay5 v0 v1 v7 v17) := rfl
theorem pay15_eq : k0_pay15 (k0_pay9 v0 v1) (k0_pay10 (F := Ideal)) v7 v17 = k0_pay7 v0 v1 v7 v17 := rfl

/-! What is stored for a chunk's one number is that number in every lane. -/

theorem pay18_apply (v : Ideal .f32) (x : S1x1x128.Idx) : k0_pay18 (F := Ideal) v x = v := rfl
theorem pay1_apply (v : Ideal .f32) (x : S1x1x128.Idx) : k0_pay1 (F := Ideal) v x = v := rfl
theorem pay2_apply (v : Ideal .f32) (x : S1x1x128.Idx) : k0_pay2 (F := Ideal) v x = v := rfl

end Cert.KernelIdeal.Chunk

end
-- ==== Proof.Stage1.lean ====
/-
  THE ARRAYS THE FIRST LAUNCH LEAVES, at any contents on entry: at grid point `i` the chunk of rows from `1024 i` fills
  slot 0 and the chunk of rows from `1024 (8 + i)` fills slot 1 of each of the three per-chunk arrays.
-/
module

public import proofs.«01_k».proof.Proof.Gen.KernelIdeal.Frame
public import proofs.«01_k».proof.Proof.Chunk
public import Idealize.ShloMosaic.Lib.Pipeline.ValueKit

@[expose] public section

set_option maxRecDepth 16384

noncomputable section

open Idealize.ShloMosaic Idealize.ShloMosaic.TcCoe

namespace Cert.KernelIdeal.Stage1

open Cert.KernelIdeal Cert.KernelIdeal.Gen

/-- Block `b` of 1024 rows of the input. -/
def block (h : FVec Ideal S16384x1024 .f32) (b : Fin 16) : FVec Ideal S1024x1024 .f32 :=
  fun y => h (ix2 ⟨b * 1024 + y 0, by have := b.2; have : (y 0).val < 1024 := (y 0).2; omega⟩ (y 1))

/-- The block whose chunk grid point `i` leaves in slot `j`. -/
def blockNo (i : Fin 8) (j : Fin 2) : Fin 16 := ⟨j * 8 + i, by omega⟩

variable (V : (c : Dev nD) → (b : Ref sig .tc) → Buf (Elt Ideal) ((c : Thread nD τ).loc b))

/-- The index maps of the launch's windows. -/
theorem idx : ∀ t : Fin grid0.N, win0_0.index t = ![t.val, 0] ∧ win0_1.index t = ![8 + t.val, 0] ∧ win0_2.index t = ![0, 0]
    ∧ win0_3.index t = ![0, 0] ∧ win0_4.index t = ![0, 0] ∧ win0_5.index t = ![t.val, 0, 0]
    ∧ win0_6.index t = ![t.val, 0, 0] ∧ win0_7.index t = ![t.val, 0, 0] := by
  decide +kernel

/-- The blocks of rows the body reads at point `t`: the chunk of the lower half, -/
theorem iblk_lo (c : Dev nD) (t : Fin cfg0.N) :
    (iblk0 V c 0 t : FVec Ideal S1024x1024 .f32) = block (V c main_arg0) (blockNo t 0) := by
  funext y
  unfold block blockNo
  blk_ext [iblk0, idx t]

/-- and the chunk of the upper half. -/
theorem iblk_hi (c : Dev nD) (t : Fin cfg0.N) :
    (iblk0 V c 1 t : FVec Ideal S1024x1024 .f32) = block (V c main_arg0) (blockNo t 1) := by
  funext y
  unfold block blockNo
  blk_ext [iblk0, idx t]

/-- The three weight blocks are the whole weights at every point. -/
theorem iblk_w1 (c : Dev nD) (t : Fin cfg0.N) : (iblk0 V c 2 t : FVec Ideal S1024x512 .bf16) = V c main_v0 := by
  funext y
  blk_ext [iblk0, idx t]

theorem iblk_wab (c : Dev nD) (t : Fin cfg0.N) : (iblk0 V c 3 t : FVec Ideal S512x512 .bf16) = V c main_v2 := by
  funext y
  blk_ext [iblk0, idx t]

theorem iblk_wc (c : Dev nD) (t : Fin cfg0.N) : (iblk0 V c 4 t : FVec Ideal S1x256 .bf16) = V c main_v4 := by
  funext y
  blk_ext [iblk0, idx t]

/-- What the first launch leaves in the array of weighted sums. -/
def sums (c : Dev nD) : FVec Ideal S8x2x512 .f32 := fun y =>
  k0_pay8 (F := Ideal) (block (V c main_arg0) (blockNo (y 0) (y 1))) (V c main_v0) (V c main_v2) (V c main_v4) (ix2 0 (y 2))

/-- What the first launch leaves in the array of largest scores. -/
def tops (c : Dev nD) : FVec Ideal S8x2x128 .f32 := fun y =>
  k0_pay5 (F := Ideal) (block (V c main_arg0) (blockNo (y 0) (y 1))) (V c main_v0) (V c main_v2) (V c main_v4)

/-- What the first launch leaves in the array of weight totals. -/
def totals (c : Dev nD) : FVec Ideal S8x2x128 .f32 := fun y =>
  k0_pay7 (F := Ideal) (block (V c main_arg0) (blockNo (y 0) (y 1))) (V c main_v0) (V c main_v2) (V c main_v4)

/-- The arrays read at an index that is slot `j` of point `t`. -/
theorem sums_at (c : Dev nD) (z : S8x2x512.Idx) (t : Fin 8) (j : Fin 2) (k : Fin 512) (h0 : (z 0 : Nat) = t)
    (h1 : (z 1 : Nat) = j) (h2 : (z 2 : Nat) = k) :
    sums V c z = k0_pay8 (F := Ideal) (block (V c main_arg0) (blockNo t j)) (V c main_v0) (V c main_v2) (V c main_v4) (ix2 0 k) := by
  obtain rfl : z 0 = t := Fin.ext h0
  obtain rfl : z 1 = j := Fin.ext h1
  obtain rfl : z 2 = k := Fin.ext h2
  rfl

theorem tops_at (c : Dev nD) (z : S8x2x128.Idx) (t : Fin 8) (j : Fin 2) (h0 : (z 0 : Nat) = t) (h1 : (z 1 : Nat) = j) :
    tops V c z = k0_pay5 (F := Ideal) (block (V c main_arg0) (blockNo t j)) (V c main_v0) (V c main_v2) (V c main_v4) := by
  obtain rfl : z 0 = t := Fin.ext h0
  obtain rfl : z 1 = j := Fin.ext h1
  rfl

theorem totals_at (c : Dev nD) (z : S8x2x128.Idx) (t : Fin 8) (j : Fin 2) (h0 : (z 0 : Nat) = t) (h1 : (z 1 : Nat) = j) :
    totals V c z = k0_pay7 (F := Ideal) (block (V c main_arg0) (blockNo t j)) (V c main_v0) (V c main_v2) (V c main_v4) := by
  obtain rfl : z 0 = t := Fin.ext h0
  obtain rfl : z 1 = j := Fin.ext h1
  rfl

theorem hz : (![0, 0] : Fin 2 → Nat) = fun _ => 0 := funext fun a => by fin_cases a <;> rfl

/-- The body's loads read whole blocks. -/
theorem ld_h (x : FVec Ideal S1024x1024 .f32) : View.ld (Val := Elt Ideal) (e' := .f32) x r0_0 = x := View.ld_unit_zero hz _ _
theorem ld_w1 (x : FVec Ideal S1024x512 .bf16) : View.ld (Val := Elt Ideal) (e' := .bf16) x r0_1 = x := View.ld_unit_zero hz _ _
theorem ld_wab (x : FVec Ideal S512x512 .bf16) : View.ld (Val := Elt Ideal) (e' := .bf16) x r0_2 = x := View.ld_unit_zero hz _ _
theorem ld_wc (x : FVec Ideal S1x256 .bf16) : View.ld (Val := Elt Ideal) (e' := .bf16) x r0_3 = x := View.ld_unit_zero hz _ _

/-- The array of weighted sums after the first launch. -/
theorem arr5 (c : Dev nD) : (dat0 V c).arrAt 5 cfg0.N = sums V c := by
  refine (dat0 V c).arrAt_eq_of_covers 5 _ (by decide +kernel) fun t hf y => ?_
  have e0 : (((win0_5.blk t).view.emb y) 0 : Nat) = t.val := by have := (y 0).2; blk_simp [idx t] at *
  have e1 : (((win0_5.blk t).view.emb y) 1 : Nat) = y 1 := by blk_simp [idx t]
  have e2 : (((win0_5.blk t).view.emb y) 2 : Nat) = y 2 := by blk_simp [idx t]
  blk_simp
  rw [after0_5, iblk_lo, iblk_hi, iblk_w1, iblk_wab, iblk_wc]
  unfold_out out0_5
  rw [ld_h, ld_h, ld_w1, ld_wab, ld_wc, Chunk.pay17_eq]
  canon_tiles x h
  · rw [sums_at V c _ t 1 (x 2) e0 (by rw [e1, h1]; show _ = 1; omega) (e2.trans h2)]
    pointwise [k0_pay16]
  · rw [sums_at V c _ t 0 (x 2) e0 (by rw [e1, h1]; show _ = 0; omega) (e2.trans h2)]
    pointwise [k0_pay16]

/-- The array of largest scores after the first launch. -/
theorem arr6 (c : Dev nD) : (dat0 V c).arrAt 6 cfg0.N = tops V c := by
  refine (dat0 V c).arrAt_eq_of_covers 6 _ (by decide +kernel) fun t hf y => ?_
  have e0 : (((win0_6.blk t).view.emb y) 0 : Nat) = t.val := by have := (y 0).2; blk_simp [idx t] at *
  have e1 : (((win0_6.blk t).view.emb y) 1 : Nat) = y 1 := by blk_simp [idx t]
  blk_simp
  rw [after0_6, iblk_lo, iblk_hi, iblk_w1, iblk_wab, iblk_wc]
  unfold_out out0_6
  rw [ld_h, ld_h, ld_w1, ld_wab, ld_wc, Chunk.pay19_eq]
  canon_tiles x h
  · rw [tops_at V c _ t 1 e0 (by rw [e1, h1]; show _ = 1; omega)]
    exact Chunk.pay18_apply _ _
  · rw [tops_at V c _ t 0 e0 (by rw [e1, h1]; show _ = 0; omega)]
    exact Chunk.pay18_apply _ _

/-- The array of weight totals after the first launch. -/
theorem arr7 (c : Dev nD) : (dat0 V c).arrAt 7 cfg0.N = totals V c := by
  refine (dat0 V c).arrAt_eq_of_covers 7 _ (by decide +kernel) fun t hf y => ?_
  have e0 : (((win0_7.blk t).view.emb y) 0 : Nat) = t.val := by have := (y 0).2; blk_simp [idx t] at *
  have e1 : (((win0_7.blk t).view.emb y) 1 : Nat) = y 1 := by blk_simp [idx t]
  blk_simp
  rw [after0_7, iblk_lo, iblk_hi, iblk_w1, iblk_wab, iblk_wc]
  unfold_out out0_7
  rw [ld_h, ld_h, ld_w1, ld_wab, ld_wc, Chunk.pay15_eq]
  canon_tiles x h
  · rw [totals_at V c _ t 1 e0 (by rw [e1, h1]; show _ = 1; omega)]
    exact Chunk.pay2_apply _ _
  · rw [totals_at V c _ t 0 e0 (by rw [e1, h1]; show _ = 0; omega)]
    exact Chunk.pay1_apply _ _

end Cert.KernelIdeal.Stage1

end
-- ==== Proof.Combine.lean ====
/-
  THE SECOND LAUNCH'S BODY: from the sixteen chunks' sums, largest scores and weight totals to the two class
  probabilities. The printed body is cut at three values (the chunks' factors, the pooled row, the logits), each read
  at an index by itself.
-/
module

public import proofs.«01_k».proof.Proof.Gen.KernelIdeal.Skeleton
public import proofs.«01_k».proof.Proof.Gen.KernelIdeal
public import proofs.«01_k».proof.Proof.Mix

@[expose] public section

set_option maxRecDepth 16384

noncomputable section

open Idealize.ShloMosaic

namespace Cert.KernelIdeal.Combine

open Cert.KernelIdeal Cert.KernelIdeal.Gen Cert.KernelIdeal.Facts

variable (v0 : FVec Ideal S8x2x512 .f32) (v3 v7 : FVec Ideal S8x2x128 .f32) (v30 : FVec Ideal S512x2 .f32)

/-- The number of chunk `c` in lane 0 of a per-chunk array. -/
def lane (v : FVec Ideal S8x2x128 .f32) (c : Fin 16) : EReal := v (ix3 ⟨c / 2, by omega⟩ ⟨c % 2, by omega⟩ 0)

/-- The factor of chunk `c`: the exponential of its largest score less the largest of all. -/
def factor (c : Fin 16) : EReal := Ideal.exp (lane v3 c - Finset.univ.sup (lane v3))

/-- Entry `k` of the pooled row. -/
def mean (k : Fin 512) : EReal :=
  Ideal.div (∑ c : Fin 16, factor v3 c * v0 (ix3 ⟨c / 2, by omega⟩ ⟨c % 2, by omega⟩ k)) (∑ c : Fin 16, factor v3 c * lane v7 c)

/-- The logit of class `o`. -/
def logit (o : Fin 2) : EReal := ∑ k : Fin 512, mean v0 v3 v7 k * v30 (ix2 k o)

/-! ### The body's values by name -/

/-- The first lane of a per-chunk array, as a column of sixteen. -/
def colV (v : FVec Ideal S8x2x128 .f32) : FVec Ideal S16x1 .f32 :=
  extractStridedSlice S16x1 ![0, 0] (shapeCast S16x128 (shapeCast S8x2x128 v shapeCasts_S8x2x128_S8x2x128) shapeCasts_S8x2x128_S16x128)
    slices_S16x128_o0_0_S16x1

/-- The largest entry of a column of sixteen. -/
def topV (v : FVec Ideal S16x1 .f32) : Ideal .f32 :=
  extractAt ![0, 0, 0] (shapeCast S1x1x1 (multiReduction .maximumf [1, 2] S1 (shapeCast S1x16x1 v shapeCasts_S16x1_S1x16x1)
    0xFF800000#32 reduces_S1x16x1_S1 (.inl rfl) rfl) shapeCasts_S1_S1x1x1) inpos_S1x1x1_p0_0_0

/-- The sum of a column of sixteen. -/
def sumV (v : FVec Ideal S16x1 .f32) : Ideal .f32 :=
  extractAt ![0, 0, 0] (shapeCast S1x1x1 (multiReduction .add [1, 2] S1 (shapeCast S1x16x1 v shapeCasts_S16x1_S1x16x1)
    0x00000000#32 reduces_S1x16x1_S1 (.inl rfl) rfl) shapeCasts_S1_S1x1x1) inpos_S1x1x1_p0_0_0

/-- The factors of the sixteen chunks. -/
def factorV : FVec Ideal S16x1 .f32 := exp (subf (colV v3) (broadcast S16x1 (topV (colV v3))))

/-- The chunks' sums, each with its factor, added up. -/
def weighedV : FVec Ideal S1x512 .f32 :=
  shapeCast S1x512 (multiReduction .add [0] S512
    (mulf (broadcastTo S16x512 (factorV v3) broadcasts_S16x1_S16x512)
      (shapeCast S16x512 (shapeCast S8x2x512 v0 shapeCasts_S8x2x512_S8x2x512) shapeCasts_S8x2x512_S16x512))
    0x00000000#32 reduces_S16x512_S512 (.inl rfl) rfl) shapeCasts_S512_S1x512

/-- The pooled row. -/
def meanV : FVec Ideal S1x512 .f32 :=
  divf (weighedV v0 v3) (broadcast S1x512 (sumV (mulf (factorV v3) (colV v7))))

/-- The logits. -/
def logitV : FVec Ideal S1x2 .f32 :=
  matmul dot_S1x512_S512x2_S1x2_1_0_0_1_n_n none (truncf .bf16 (meanV v0 v3 v7) bitsLt_bf16_f32) (truncf .bf16 v30 bitsLt_bf16_f32)
    (constant S1x2 .f32 0x00000000#32)

/-- The larger logit. -/
def top2V (v : FVec Ideal S1x2 .f32) : Ideal .f32 :=
  extractAt ![0, 0, 0] (shapeCast S1x1x1 (multiReduction .maximumf [1, 2] S1 (shapeCast S1x1x2 v shapeCasts_S1x2_S1x1x2)
    0xFF800000#32 reduces_S1x1x2_S1 (.inl rfl) rfl) shapeCasts_S1_S1x1x1) inpos_S1x1x1_p0_0_0

theorem pay2_eq : k1_pay2 (F := Ideal) v0 v3 v7 v30 = exp (subf (logitV v0 v3 v7 v30) (broadcast S1x2 (top2V (logitV v0 v3 v7 v30)))) := rfl

/-! ### …each read at an index -/

theorem colV_apply (v : FVec Ideal S8x2x128 .f32) (c : Fin 16) : colV v (ix2 c 0) = lane v c := by
  unfold lane
  pointwise [colV]

theorem topV_eq (v : FVec Ideal S16x1 .f32) : topV v = Finset.univ.sup fun c : Fin 16 => v (ix2 c 0) := by
  pointwise [topV]
  rw [Mix.ofBits_negInf]
  exact Mix.fold_max_pair' fun c => v (ix2 c 0)

theorem sumV_eq (v : FVec Ideal S16x1 .f32) : sumV v = ∑ c : Fin 16, v (ix2 c 0) := by
  pointwise [sumV]
  exact Finset.sum_congr rfl fun c _ => Fin.sum_univ_one _

theorem factorV_apply (c : Fin 16) : factorV v3 (ix2 c 0) = factor v3 c := by
  unfold factor
  pointwise [factorV]
  rw [topV_eq, colV_apply]
  simp only [colV_apply]

theorem weighedV_apply (k : Fin 512) :
    weighedV v0 v3 (ix2 0 k) = ∑ c : Fin 16, factor v3 c * v0 (ix3 ⟨c / 2, by omega⟩ ⟨c % 2, by omega⟩ k) := by
  pointwise [weighedV]
  simp only [factorV_apply]

theorem meanV_apply (k : Fin 512) : meanV v0 v3 v7 (ix2 0 k) = mean v0 v3 v7 k := by
  unfold mean
  pointwise [meanV]
  rw [weighedV_apply, sumV_eq]
  pointwise
  simp only [factorV_apply, colV_apply]

theorem logitV_apply (o : Fin 2) : logitV v0 v3 v7 v30 (ix2 0 o) = logit v0 v3 v7 v30 o := by
  unfold logit
  pointwise [logitV]
  simp only [meanV_apply]

theorem top2V_eq (v : FVec Ideal S1x2 .f32) : top2V v = Finset.univ.sup fun o : Fin 2 => v (ix2 0 o) := by
  pointwise [top2V]
  rw [Mix.ofBits_negInf]
  exact Mix.fold_max_pair fun o => v (ix2 0 o)

theorem pay2_apply (o : Fin 2) : k1_pay2 (F := Ideal) v0 v3 v7 v30 (ix2 0 o)
    = Ideal.exp (logit v0 v3 v7 v30 o - Finset.univ.sup (logit v0 v3 v7 v30)) := by
  rw [pay2_eq]
  pointwise
  rw [top2V_eq]
  simp only [logitV_apply]

/-- The body's result: the softmax of the two logits. -/
theorem pay1_apply (o : Fin 2) :
    k1_pay1 (F := Ideal) (k1_pay2 v0 v3 v7 v30) (k1_pay3 v0 v3 v7 v30) (ix2 0 o)
      = Ideal.div (Ideal.exp (logit v0 v3 v7 v30 o - Finset.univ.sup (logit v0 v3 v7 v30)))
          (∑ o', Ideal.exp (logit v0 v3 v7 v30 o' - Finset.univ.sup (logit v0 v3 v7 v30))) := by
  pointwise [k1_pay1, k1_pay3]
  simp only [pay2_apply]
  exact congrArg _ (Fin.sum_univ_one _)

end Cert.KernelIdeal.Combine

end
-- ==== Proof.Stage2.lean ====
/-
  THE ARRAY THE SECOND LAUNCH LEAVES, at any contents on entry: its one grid point writes the whole (1, 2) result from
  the three per-chunk arrays and the classifier weight, each read whole.
-/
module

public import proofs.«01_k».proof.Proof.Gen.KernelIdeal.Frame
public import proofs.«01_k».proof.Proof.Combine
public import Idealize.ShloMosaic.Lib.Pipeline.ValueKit

@[expose] public section

set_option maxRecDepth 16384

noncomputable section

open Idealize.ShloMosaic Idealize.ShloMosaic.TcCoe

namespace Cert.KernelIdeal.Stage2

open Cert.KernelIdeal Cert.KernelIdeal.Gen

variable (V : (c : Dev nD) → (b : Ref sig .tc) → Buf (Elt Ideal) ((c : Thread nD τ).loc b))

/-- The index maps of the launch's windows. -/
theorem idx : ∀ t : Fin grid1.N, win1_0.index t = ![0, 0, 0] ∧ win1_1.index t = ![0, 0, 0] ∧ win1_2.index t = ![0, 0, 0]
    ∧ win1_3.index t = ![0, 0] ∧ win1_4.index t = ![0, 0] := by
  decide +kernel

/-- Every input block is the whole array. -/
theorem iblk_pm (c : Dev nD) (t : Fin cfg1.N) : (iblk1 V c 0 t : FVec Ideal S8x2x512 .f32) = V c main_v5_0 := by
  funext y
  blk_ext [iblk1, idx t]

theorem iblk_sm (c : Dev nD) (t : Fin cfg1.N) : (iblk1 V c 1 t : FVec Ideal S8x2x128 .f32) = V c main_v5_1 := by
  funext y
  blk_ext [iblk1, idx t]

theorem iblk_sd (c : Dev nD) (t : Fin cfg1.N) : (iblk1 V c 2 t : FVec Ideal S8x2x128 .f32) = V c main_v5_2 := by
  funext y
  blk_ext [iblk1, idx t]

theorem iblk_wcls (c : Dev nD) (t : Fin cfg1.N) : (iblk1 V c 3 t : FVec Ideal S512x2 .f32) = V c main_arg10 := by
  funext y
  blk_ext [iblk1, idx t]

/-- The result array after the second launch: the body's value of the four arrays. -/
theorem arr4 (c : Dev nD) : (dat1 V c).arrAt 4 cfg1.N
    = k1_pay1 (F := Ideal) (k1_pay2 (V c main_v5_0) (V c main_v5_1) (V c main_v5_2) (V c main_arg10))
        (k1_pay3 (V c main_v5_0) (V c main_v5_1) (V c main_v5_2) (V c main_arg10)) := by
  refine (dat1 V c).arrAt_eq_of_covers 4 _ (by decide +kernel) fun t hf y => ?_
  blk_simp
  rw [after1_4, iblk_pm, iblk_sm, iblk_sd, iblk_wcls]
  frame_out
  congr 1
  blk_ext [idx t]

end Cert.KernelIdeal.Stage2

end
-- ==== Proof.Operands.lean ====
/-
  THE CONTENTS EACH LAUNCH READS: the arguments as they were, and the three weights the host lays out before the first
  launch: the feature weight, the two branch weights side by side, and the score column as a row.
-/
module

public import proofs.«01_k».proof.Proof.Gen.KernelIdeal.Frame
public import proofs.«01_k».proof.Proof.Stage1
public import proofs.«01_k».proof.Proof.Stage2

@[expose] public section

set_option maxRecDepth 16384

noncomputable section

open Idealize.ShloMosaic Idealize.ShloMosaic.TcCoe Idealize.ShloMosaic.Tactic

namespace Cert.KernelIdeal.Operands

open Cert.KernelIdeal Cert.KernelIdeal.Gen

variable (m : (ℓ : Loc nD τ sig) → Buf (Elt Ideal) ℓ) (ρ : Dev nD → PrngReg) (c : Dev nD)

/-- The feature weight the first launch reads is the argument. -/
theorem w1 (i : S1024x512.Idx) : (V1 m ρ c main_v0 : FVec Ideal S1024x512 .bf16) i = m ((c : Thread nD τ).loc main_arg2) i := by
  have e : @Eq (FVec Ideal S1024x512 .bf16) (V1 m ρ c main_v0)
      (truncf .bf16 (m ((c : Thread nD τ).loc main_arg2) : FVec Ideal S1024x512 .f32) bitsLt_bf16_f32) := by
    simp only [V1, W1, hostOps0]; after_results_simp
  rw [e]
  pointwise

/-- The two branch weights, side by side, as the launch reads them. -/
theorem wab : @Eq (FVec Ideal S512x512 .bf16) (V1 m ρ c main_v2) (truncf .bf16 (concatenate S512x512 1
    [⟨S512x256, (m ((c : Thread nD τ).loc main_arg4) : FVec Ideal S512x256 .f32)⟩,
      ⟨S512x256, (m ((c : Thread nD τ).loc main_arg6) : FVec Ideal S512x256 .f32)⟩] concatenates_S512x256_S512x256_S512x512_d1) bitsLt_bf16_f32) := by
  simp only [V1, W1, hostOps0]; after_results_simp
  rfl

/-- Its left half is the tanh branch's weight, -/
theorem wa (k : Fin 512) (q : Fin 256) : (V1 m ρ c main_v2 : FVec Ideal S512x512 .bf16) (ix2 k ⟨q, by omega⟩)
    = m ((c : Thread nD τ).loc main_arg4) (ix2 k q) := by
  rw [wab]
  pointwise

/-- and its right half the gate's. -/
theorem wb (k : Fin 512) (q : Fin 256) : (V1 m ρ c main_v2 : FVec Ideal S512x512 .bf16) (ix2 k ⟨256 + q, by omega⟩)
    = m ((c : Thread nD τ).loc main_arg6) (ix2 k q) := by
  rw [wab]
  pointwise

/-- The score column, laid out as a row. -/
theorem wc (q : Fin 256) : (V1 m ρ c main_v4 : FVec Ideal S1x256 .bf16) (ix2 0 q) = m ((c : Thread nD τ).loc main_arg8) (ix2 q 0) := by
  have e : @Eq (FVec Ideal S1x256 .bf16) (V1 m ρ c main_v4) (truncf .bf16
      (shapeCast S1x256 (m ((c : Thread nD τ).loc main_arg8) : FVec Ideal S256x1 .f32) shapeCasts_S256x1_S1x256) bitsLt_bf16_f32) := by
    simp only [V1, W1, hostOps0]; after_results_simp
    rfl
  rw [e]
  pointwise

/-- The input rows are the argument. -/
theorem rows : V1 m ρ c main_arg0 = m ((c : Thread nD τ).loc main_arg0) := W1_args m ρ c main_arg0 (by decide)

/-- The program's result array at its end, of the first launch's three arrays. -/
theorem result : W3 m ρ c (Proc.devRef .tc main_v6)
    = k1_pay1 (k1_pay2 (Stage1.sums (V1 m ρ) c) (Stage1.tops (V1 m ρ) c) (Stage1.totals (V1 m ρ) c) (m ((c : Thread nD τ).loc main_arg10)))
        (k1_pay3 (Stage1.sums (V1 m ρ) c) (Stage1.tops (V1 m ρ) c) (Stage1.totals (V1 m ρ) c) (m ((c : Thread nD τ).loc main_arg10))) := by
  have e5 : V2 m ρ c main_v5_0 = Stage1.sums (V1 m ρ) c := (W2_arr m ρ c 5).trans (Stage1.arr5 _ c)
  have e6 : V2 m ρ c main_v5_1 = Stage1.tops (V1 m ρ) c := (W2_arr m ρ c 6).trans (Stage1.arr6 _ c)
  have e7 : V2 m ρ c main_v5_2 = Stage1.totals (V1 m ρ) c := (W2_arr m ρ c 7).trans (Stage1.arr7 _ c)
  have ew : V2 m ρ c main_arg10 = m ((c : Thread nD τ).loc main_arg10) := W2_args m ρ c main_arg10 (by decide)
  refine ((W3_arr m ρ c 4).trans (Stage2.arr4 _ c)).trans ?_
  rw [e5, e6, e7, ew]

end Cert.KernelIdeal.Operands
-- ==== Proof.RefValue.lean ====
/-
  WHAT THE REFERENCE COMPUTES, read at an index: features, attention scores, the softmax over all 16384 rows, the pooled
  row, the logits and their softmax. The printed term is cut at these values.
-/
module

public import proofs.«01_k».proof.Proof.Gen.ReferenceIdeal.Run
public import proofs.«01_k».proof.Proof.Mix

@[expose] public section

set_option maxRecDepth 16384

noncomputable section

open Idealize.ShloMosaic Idealize.ShloMosaic.TcCoe

namespace Cert.ReferenceIdeal.RefValue

open Cert.ReferenceIdeal Cert.ReferenceIdeal.Gen

variable (h : FVec Ideal S16384x1024 .f32) (W1 : FVec Ideal S1024x512 .f32) (b1 : FVec Ideal S512 .f32)
  (Wa : FVec Ideal S512x256 .f32) (ba : FVec Ideal S256 .f32) (Wb : FVec Ideal S512x256 .f32) (bb : FVec Ideal S256 .f32)
  (Wc : FVec Ideal S256x1 .f32) (bc : FVec Ideal S1 .f32) (Wcls : FVec Ideal S512x2 .f32) (bcls : FVec Ideal S2 .f32)

/-! ### The reference's values, by name -/

/-- The features of all rows. -/
def featV : FVec Ideal S16384x512 .f32 :=
  maximumf (addf (Host.dotGeneral dot_S16384x1024_S1024x512_S16384x512_1_0_0_1_n_n none h W1)
    (broadcastInDim S16384x512 ![0, 1] bcast_S1x512_S16384x512_0_1 (broadcastInDim S1x512 ![1] bcast_S512_S1x512_1 b1)))
    (broadcastInDim S16384x512 ![] bcast_S_S16384x512 (constant S_ .f32 0x00000000#32))

/-- One of the two branches before its activation. -/
def branchV (x : FVec Ideal S16384x512 .f32) (W : FVec Ideal S512x256 .f32) (b : FVec Ideal S256 .f32) : FVec Ideal S16384x256 .f32 :=
  addf (Host.dotGeneral dot_S16384x512_S512x256_S16384x256_1_0_0_1_n_n none x W)
    (broadcastInDim S16384x256 ![0, 1] bcast_S1x256_S16384x256_0_1 (broadcastInDim S1x256 ![1] bcast_S256_S1x256_1 b))

/-- The logistic function as the reference spells it. -/
def gateV (z : FVec Ideal S16384x256 .f32) : FVec Ideal S16384x256 .f32 :=
  Host.divf (broadcastInDim S16384x256 ![] bcast_S_S16384x256 (constant S_ .f32 0x3F800000#32))
    (addf (broadcastInDim S16384x256 ![] bcast_S_S16384x256 (constant S_ .f32 0x3F800000#32)) (Host.exp (Host.negf z)))

/-- The scores as one row, from the two activated branches. -/
def scoreV (u g : FVec Ideal S16384x256 .f32) : FVec Ideal S1x16384 .f32 :=
  transpose S1x16384 [1, 0] (addf (Host.dotGeneral dot_S16384x256_S256x1_S16384x1_1_0_0_1_n_n none (mulf u g) Wc)
    (broadcastInDim S16384x1 ![0, 1] bcast_S1x1_S16384x1_0_1 (broadcastInDim S1x1 ![1] bcast_S1_S1x1_1 bc))) transposes_S16384x1_S1x16384_1_0

/-- The exponentials of the scores less the largest. -/
def expV (s : FVec Ideal S1x16384 .f32) : FVec Ideal S1x16384 .f32 :=
  Host.exp (subf s (broadcastInDim S1x16384 ![0, 1] bcast_S1x1_S1x16384_0_1 (broadcastInDim S1x1 ![0] bcast_S1_S1x1_0
    (maximumf (broadcastInDim S1 ![] bcast_S_S1 (constant S_ .f32 0xFF800000#32))
      (Host.reduce FloatOps.maximumf s (constant S_ .f32 0xFF800000#32) reducesTo_S1x16384_S1_d1 h_S_)))))

/-- The weights: the exponentials over their sum. -/
def weightV (e : FVec Ideal S1x16384 .f32) : FVec Ideal S1x16384 .f32 :=
  Host.divf e (broadcastInDim S1x16384 ![0, 1] bcast_S1x1_S1x16384_0_1 (broadcastInDim S1x1 ![0] bcast_S1_S1x1_0
    (Host.reduceAdd e (constant S_ .f32 0x00000000#32) reducesTo_S1x16384_S1_d1 h_S_)))

/-- The logits, from the weights and the features. -/
def logitV (a : FVec Ideal S1x16384 .f32) (x : FVec Ideal S16384x512 .f32) : FVec Ideal S1x2 .f32 :=
  addf (Host.dotGeneral dot_S1x512_S512x2_S1x2_1_0_0_1_n_n none (Host.dotGeneral dot_S1x16384_S16384x512_S1x512_1_0_0_1_n_n none a x) Wcls)
    (broadcastInDim S1x2 ![1] bcast_S2_S1x2_1 bcls)

/-- The exponentials of the two logits less the larger. -/
def exp2V (l : FVec Ideal S1x2 .f32) : FVec Ideal S1x2 .f32 :=
  Host.exp (subf l (broadcastInDim S1x2 ![0, 1] bcast_S1x1_S1x2_0_1 (broadcastInDim S1x1 ![0] bcast_S1_S1x1_0
    (maximumf (broadcastInDim S1 ![] bcast_S_S1 (constant S_ .f32 0xFF800000#32))
      (Host.reduce FloatOps.maximumf l (constant S_ .f32 0xFF800000#32) reducesTo_S1x2_S1_d1 h_S_)))))

/-- The class probabilities: the exponentials over their sum. -/
def probV (e : FVec Ideal S1x2 .f32) : FVec Ideal S1x2 .f32 :=
  Host.divf e (broadcastInDim S1x2 ![0, 1] bcast_S1x1_S1x2_0_1 (broadcastInDim S1x1 ![0] bcast_S1_S1x1_0
    (Host.reduceAdd e (constant S_ .f32 0x00000000#32) reducesTo_S1x2_S1_d1 h_S_)))

/-- The reference's result, of its arguments. -/
def resultV : FVec Ideal S1x2 .f32 :=
  probV (exp2V (logitV Wcls bcls
    (weightV (expV (scoreV Wc bc (Host.tanh (branchV (featV h W1 b1) Wa ba)) (gateV (branchV (featV h W1 b1) Wb bb)))))
    (featV h W1 b1)))

theorem res_eq (m : (ℓ : Loc nD τ sig) → Buf (Elt Ideal) ℓ) (c : Dev nD) : Value.res_main_v51 m c
    = resultV (m ((c.tc : Thread nD τ).loc main_arg0)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6))
        (m ((c.tc : Thread nD τ).loc main_arg7)) (m ((c.tc : Thread nD τ).loc main_arg8)) (m ((c.tc : Thread nD τ).loc main_arg9))
        (m ((c.tc : Thread nD τ).loc main_arg10)) (m ((c.tc : Thread nD τ).loc main_arg11)) := by
  unfold Value.res_main_v51
  rfl

/-! ### …each read at an index -/

/-- Feature `k` of row `n`. -/
def feat (n : Fin 16384) (k : Fin 512) : EReal := max (∑ l : Fin 1024, h (ix2 n l) * W1 (ix2 l k) + b1 (ix1 k)) 0

/-- The attention score of row `n`. -/
def score (n : Fin 16384) : EReal :=
  ∑ q : Fin 256, Ideal.tanh (∑ k : Fin 512, feat h W1 b1 n k * Wa (ix2 k q) + ba (ix1 q))
    * Ideal.logistic (∑ k : Fin 512, feat h W1 b1 n k * Wb (ix2 k q) + bb (ix1 q)) * Wc (ix2 q 0) + bc (ix1 0)

theorem featV_apply (n : Fin 16384) (k : Fin 512) : featV h W1 b1 (ix2 n k) = feat h W1 b1 n k := by
  unfold feat
  pointwise [featV]

theorem branchV_apply (x : FVec Ideal S16384x512 .f32) (W : FVec Ideal S512x256 .f32) (b : FVec Ideal S256 .f32) (n : Fin 16384) (q : Fin 256) :
    branchV x W b (ix2 n q) = ∑ k : Fin 512, x (ix2 n k) * W (ix2 k q) + b (ix1 q) := by
  pointwise [branchV]

theorem gateV_apply (z : FVec Ideal S16384x256 .f32) (n : Fin 16384) (q : Fin 256) : gateV z (ix2 n q) = Ideal.logistic (z (ix2 n q)) := by
  pointwise [gateV]
  rfl

theorem scoreV_apply (u g : FVec Ideal S16384x256 .f32) (n : Fin 16384) :
    scoreV Wc bc u g (ix2 0 n) = ∑ q : Fin 256, u (ix2 n q) * g (ix2 n q) * Wc (ix2 q 0) + bc (ix1 0) := by
  pointwise [scoreV]

theorem scores (n : Fin 16384) :
    scoreV Wc bc (Host.tanh (branchV (featV h W1 b1) Wa ba)) (gateV (branchV (featV h W1 b1) Wb bb)) (ix2 0 n)
      = score h W1 b1 Wa ba Wb bb Wc bc n := by
  rw [scoreV_apply]
  unfold score
  congr 1
  refine Finset.sum_congr rfl fun q _ => ?_
  rw [gateV_apply]
  pointwise
  simp only [branchV_apply, featV_apply]

theorem expV_apply (s : FVec Ideal S1x16384 .f32) (n : Fin 16384) :
    expV s (ix2 0 n) = Ideal.exp (s (ix2 0 n) - Finset.univ.sup fun n => s (ix2 0 n)) := by
  pointwise [expV]
  rw [Mix.ofBits_negInf, Mix.fold_max, max_eq_right bot_le]

theorem weightV_apply (e : FVec Ideal S1x16384 .f32) (n : Fin 16384) :
    weightV e (ix2 0 n) = Ideal.div (e (ix2 0 n)) (∑ n, e (ix2 0 n)) := by
  pointwise [weightV]

theorem logitV_apply (a : FVec Ideal S1x16384 .f32) (x : FVec Ideal S16384x512 .f32) (o : Fin 2) :
    logitV Wcls bcls a x (ix2 0 o) = ∑ k : Fin 512, (∑ n : Fin 16384, a (ix2 0 n) * x (ix2 n k)) * Wcls (ix2 k o) + bcls (ix1 o) := by
  pointwise [logitV]

theorem exp2V_apply (l : FVec Ideal S1x2 .f32) (o : Fin 2) :
    exp2V l (ix2 0 o) = Ideal.exp (l (ix2 0 o) - Finset.univ.sup fun o => l (ix2 0 o)) := by
  pointwise [exp2V]
  rw [Mix.ofBits_negInf, Mix.fold_max, max_eq_right bot_le]

theorem probV_apply (e : FVec Ideal S1x2 .f32) (o : Fin 2) : probV e (ix2 0 o) = Ideal.div (e (ix2 0 o)) (∑ o, e (ix2 0 o)) := by
  pointwise [probV]

/-- Feature `k` pooled over the rows by the softmax of their scores. -/
def pooled (k : Fin 512) : EReal :=
  ∑ n, Ideal.div (Ideal.exp (score h W1 b1 Wa ba Wb bb Wc bc n - Finset.univ.sup (score h W1 b1 Wa ba Wb bb Wc bc)))
      (∑ n, Ideal.exp (score h W1 b1 Wa ba Wb bb Wc bc n - Finset.univ.sup (score h W1 b1 Wa ba Wb bb Wc bc)))
    * feat h W1 b1 n k

/-- The logit of class `o`. -/
def logit (o : Fin 2) : EReal := ∑ k : Fin 512, pooled h W1 b1 Wa ba Wb bb Wc bc k * Wcls (ix2 k o) + bcls (ix1 o)

theorem logits (o : Fin 2) : logitV Wcls bcls
    (weightV (expV (scoreV Wc bc (Host.tanh (branchV (featV h W1 b1) Wa ba)) (gateV (branchV (featV h W1 b1) Wb bb)))))
    (featV h W1 b1) (ix2 0 o) = logit h W1 b1 Wa ba Wb bb Wc bc Wcls bcls o := by
  rw [logitV_apply]
  unfold logit pooled
  simp only [weightV_apply, expV_apply, scores, featV_apply]

/-- The reference's result: the softmax of the logits. -/
theorem result_apply (o : Fin 2) : resultV h W1 b1 Wa ba Wb bb Wc bc Wcls bcls (ix2 0 o)
    = Ideal.div (Ideal.exp (logit h W1 b1 Wa ba Wb bb Wc bc Wcls bcls o
          - Finset.univ.sup (logit h W1 b1 Wa ba Wb bb Wc bc Wcls bcls)))
        (∑ o, Ideal.exp (logit h W1 b1 Wa ba Wb bb Wc bc Wcls bcls o
          - Finset.univ.sup (logit h W1 b1 Wa ba Wb bb Wc bc Wcls bcls))) := by
  unfold resultV
  rw [probV_apply]
  simp only [exp2V_apply, logits]

end Cert.ReferenceIdeal.RefValue

end
-- ==== Proof.Same.lean ====
/-
  THE TWO RESULTS ARE THE SAME ARRAY when every bias but the score's is zero and the score's bias and weight are real:
  chunk by chunk the kernel's features and scores are the reference's, the combination of chunks is the softmax over all
  rows (`Mix.pool_rows`), and the classifier is applied alike.
-/
module

public import proofs.«01_k».proof.Proof.Operands
public import proofs.«01_k».proof.Proof.RefValue

@[expose] public section

set_option maxRecDepth 16384

noncomputable section

open Idealize.ShloMosaic Idealize.ShloMosaic.TcCoe

namespace Cert.Same

open Cert.KernelIdeal Cert.KernelIdeal.Gen
open Cert.ReferenceIdeal (RefValue.feat RefValue.score RefValue.logit RefValue.pooled RefValue.resultV)

variable (h : FVec Ideal S16384x1024 .f32) (W1 : FVec Ideal S1024x512 .f32) (b1 : FVec Ideal S512 .f32)
  (Wa : FVec Ideal S512x256 .f32) (ba : FVec Ideal S256 .f32) (Wb : FVec Ideal S512x256 .f32) (bb : FVec Ideal S256 .f32)
  (Wc : FVec Ideal S256x1 .f32) (bc : FVec Ideal S1 .f32) (Wcls : FVec Ideal S512x2 .f32) (bcls : FVec Ideal S2 .f32)

/-- The score of row `n` without the score's bias. -/
def base (n : Fin 16384) : EReal :=
  ∑ q : Fin 256, Ideal.tanh (∑ k : Fin 512, RefValue.feat h W1 b1 n k * Wa (ix2 k q) + ba (ix1 q))
    * Ideal.logistic (∑ k : Fin 512, RefValue.feat h W1 b1 n k * Wb (ix2 k q) + bb (ix1 q)) * Wc (ix2 q 0)

theorem score_eq : RefValue.score h W1 b1 Wa ba Wb bb Wc bc = fun n => base h W1 b1 Wa ba Wb bb Wc n + bc (ix1 0) := rfl

/-- With a real score weight every such score is real, since tanh and the gate always are. -/
theorem base_real (hWc : ∀ i, Mix.IsReal (Wc i)) (n : Fin 16384) : Mix.IsReal (base h W1 b1 Wa ba Wb bb Wc n) :=
  Mix.IsReal.sum _ _ fun q _ => ((Mix.isReal_tanh _).mul (Mix.isReal_logistic _)).mul (hWc (ix2 q 0))

variable (w1 : FVec Ideal S1024x512 .bf16) (wab : FVec Ideal S512x512 .bf16) (wc : FVec Ideal S1x256 .bf16)

/-- The block of rows of chunk `c`. -/
def chunk (c : Fin 16) : FVec Ideal S1024x1024 .f32 := Stage1.block h (Stage1.blockNo ⟨c / 2, by omega⟩ ⟨c % 2, by omega⟩)

theorem chunk_apply (c : Fin 16) (r l : Fin 1024) : chunk h c (ix2 r l) = h (ix2 (Mix.row c r) l) := rfl

/-- A chunk's features are the reference's, -/
theorem feat_eq (hb1 : ∀ i, b1 i = 0) (e1 : ∀ i, w1 i = W1 i) (c : Fin 16) (r : Fin 1024) (k : Fin 512) :
    Chunk.feat (chunk h c) w1 r k = RefValue.feat h W1 b1 (Mix.row c r) k := by
  unfold Chunk.feat RefValue.feat
  simp only [chunk_apply, e1, hb1, add_zero]

/-- and so are its scores, but for the score's bias. -/
theorem chunk_score (hb1 : ∀ i, b1 i = 0) (hba : ∀ i, ba i = 0) (hbb : ∀ i, bb i = 0) (e1 : ∀ i, w1 i = W1 i)
    (ea : ∀ (k : Fin 512) (q : Fin 256), wab (ix2 k ⟨q, by omega⟩) = Wa (ix2 k q))
    (eb : ∀ (k : Fin 512) (q : Fin 256), wab (ix2 k ⟨256 + q, by omega⟩) = Wb (ix2 k q))
    (ec : ∀ q : Fin 256, wc (ix2 0 q) = Wc (ix2 q 0)) (c : Fin 16) (r : Fin 1024) :
    Chunk.score (chunk h c) w1 wab wc r = base h W1 b1 Wa ba Wb bb Wc (Mix.row c r) := by
  unfold Chunk.score base
  simp only [feat_eq h W1 b1 w1 hb1 e1, ea, eb, ec, hba, hbb, add_zero]
  exact Finset.sum_congr rfl fun q _ => mul_comm _ _

/-- The pooled row of the combination is the reference's, for any per-chunk arrays that hold the chunks' numbers. -/
theorem mean_eq (hb1 : ∀ i, b1 i = 0) (hba : ∀ i, ba i = 0) (hbb : ∀ i, bb i = 0)
    (hWc : ∀ i, Mix.IsReal (Wc i)) (hbc : ∀ i, Mix.IsReal (bc i)) (e1 : ∀ i, w1 i = W1 i)
    (ea : ∀ (k : Fin 512) (q : Fin 256), wab (ix2 k ⟨q, by omega⟩) = Wa (ix2 k q))
    (eb : ∀ (k : Fin 512) (q : Fin 256), wab (ix2 k ⟨256 + q, by omega⟩) = Wb (ix2 k q))
    (ec : ∀ q : Fin 256, wc (ix2 0 q) = Wc (ix2 q 0))
    (pm : FVec Ideal S8x2x512 .f32) (sm sd : FVec Ideal S8x2x128 .f32)
    (hpm : ∀ (c : Fin 16) (k : Fin 512), pm (ix3 ⟨c / 2, by omega⟩ ⟨c % 2, by omega⟩ k) = k0_pay8 (F := Ideal) (chunk h c) w1 wab wc (ix2 0 k))
    (hsm : ∀ c, Combine.lane sm c = k0_pay5 (F := Ideal) (chunk h c) w1 wab wc)
    (hsd : ∀ c, Combine.lane sd c = k0_pay7 (F := Ideal) (chunk h c) w1 wab wc) (k : Fin 512) :
    Combine.mean pm sm sd k = RefValue.pooled h W1 b1 Wa ba Wb bb Wc bc k := by
  have hs := chunk_score h W1 b1 Wa ba Wb bb Wc w1 wab wc hb1 hba hbb e1 ea eb ec
  have hs' : ∀ c, Chunk.score (chunk h c) w1 wab wc = fun r => base h W1 b1 Wa ba Wb bb Wc (Mix.row c r) := fun c => funext (hs c)
  have hm : ∀ c, Combine.lane sm c = Finset.univ.sup fun r => base h W1 b1 Wa ba Wb bb Wc (Mix.row c r) := fun c => by
    rw [hsm, Chunk.pay5_eq, hs']
  unfold RefValue.pooled Combine.mean Combine.factor
  rw [score_eq]
  refine Eq.trans ?_ (Mix.pool_rows (base h W1 b1 Wa ba Wb bb Wc) (fun n => RefValue.feat h W1 b1 n k) (bc (ix1 0)) (hbc _)
    (base_real h W1 b1 Wa ba Wb bb Wc hWc) (fun n => le_max_right _ _) (Combine.lane sm) hm)
  congr 1
  · refine Finset.sum_congr rfl fun c _ => ?_
    rw [hpm, Chunk.pay8_apply, ← Chunk.pay5_eq, ← hsm]
    simp only [hs, feat_eq h W1 b1 w1 hb1 e1]
  · refine Finset.sum_congr rfl fun c _ => ?_
    rw [hsd, Chunk.pay7_eq, ← Chunk.pay5_eq, ← hsm]
    simp only [hs]

variable (m : (ℓ : Loc nD τ sig) → Buf (Elt Ideal) ℓ) (ρ : Dev nD → PrngReg) (c : Dev nD)

/-- The kernel's result array is the reference's function of the same arguments. -/
theorem result_eq
    (hb1 : ∀ i, @Eq EReal (m ((c : Thread nD τ).loc main_arg3) i) 0)
    (hba : ∀ i, @Eq EReal (m ((c : Thread nD τ).loc main_arg5) i) 0)
    (hbb : ∀ i, @Eq EReal (m ((c : Thread nD τ).loc main_arg7) i) 0)
    (hbcls : ∀ i, @Eq EReal (m ((c : Thread nD τ).loc main_arg11) i) 0)
    (hbc : ∀ i, Mix.IsReal ((m ((c : Thread nD τ).loc main_arg9) : FVec Ideal S1 .f32) i))
    (hWc : ∀ i, Mix.IsReal ((m ((c : Thread nD τ).loc main_arg8) : FVec Ideal S256x1 .f32) i)) :
    @Eq (FVec Ideal S1x2 .f32) (W3 m ρ c (Proc.devRef .tc main_v6))
      (RefValue.resultV (m ((c : Thread nD τ).loc main_arg0)) (m ((c : Thread nD τ).loc main_arg2)) (m ((c : Thread nD τ).loc main_arg3))
        (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9))
        (m ((c : Thread nD τ).loc main_arg10)) (m ((c : Thread nD τ).loc main_arg11))) := by
  rw [Operands.result]
  funext i
  obtain ⟨o, rfl⟩ : ∃ o : Fin 2, i = ix2 0 o := ⟨i 1, by
    funext a
    fin_cases a
    · exact Subsingleton.elim (α := Fin 1) _ _
    · rfl⟩
  rw [Combine.pay1_apply, Cert.ReferenceIdeal.RefValue.result_apply]
  have e : Combine.logit (Stage1.sums (V1 m ρ) c) (Stage1.tops (V1 m ρ) c) (Stage1.totals (V1 m ρ) c) (m ((c : Thread nD τ).loc main_arg10))
      = RefValue.logit (m ((c : Thread nD τ).loc main_arg0)) (m ((c : Thread nD τ).loc main_arg2)) (m ((c : Thread nD τ).loc main_arg3))
        (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9))
        (m ((c : Thread nD τ).loc main_arg10)) (m ((c : Thread nD τ).loc main_arg11)) := by
    funext o
    unfold Combine.logit RefValue.logit
    refine Eq.trans ?_ (((congrArg (_ + ·) (hbcls _)).trans (add_zero _)).symm)
    refine Finset.sum_congr rfl fun k _ => congrArg (· * _) ?_
    refine mean_eq _ _ _ _ _ _ _ _ _ (V1 m ρ c main_v0) (V1 m ρ c main_v2) (V1 m ρ c main_v4) hb1 hba hbb hWc hbc
      (Operands.w1 m ρ c) (Operands.wa m ρ c) (Operands.wb m ρ c) (Operands.wc m ρ c) _ _ _ (fun c' k => ?_) (fun c' => ?_) (fun c' => ?_) k
    all_goals
      rw [← Operands.rows m ρ c]
      rfl
  rw [e]

end Cert.Same
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Pre
public import proofs.«01_k».proof.Proof.Run
public import proofs.«01_k».proof.Proof.Same
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The kernel and the reference end with equal results. -/
theorem algebraic : algebraic_KernelIdeal_ReferenceIdeal_pre_biases (hKernelIdeal := Cert.KernelIdeal.Gen.facts)
    (hReferenceIdeal := Cert.ReferenceIdeal.Gen.facts) (hPre_biases := Cert.Pre_biases.facts) := by
  intro m g m' g' hpre hag
  refine ⟨fun c => Cert.KernelIdeal.Gen.W3 m g c (Proc.devRef .tc Cert.KernelIdeal.main_v6), ?_, ?_⟩
  · refine (θ_run _ _ _).mono (fun r hr c => ?_) (Cert.KernelIdeal.Whole.run m g)
    have arg : ∀ a, Proc.devRef .tc a ∈ Pipeline.ucRefs Cert.KernelIdeal.τ Cert.KernelIdeal.sig → _ := fun a ha => hr c (Proc.devRef .tc a) ha
    exact ⟨arg _ (Cert.KernelIdeal.Gen.mem_uc _ (by decide)),
      (arg _ (Cert.KernelIdeal.Gen.mem_uc _ (by decide))).trans (Cert.KernelIdeal.Gen.W3_main_arg0 m g c),
      (arg _ (Cert.KernelIdeal.Gen.mem_uc _ (by decide))).trans (Cert.KernelIdeal.Gen.W3_main_arg1 m g c),
      (arg _ (Cert.KernelIdeal.Gen.mem_uc _ (by decide))).trans (Cert.KernelIdeal.Gen.W3_main_arg2 m g c),
      (arg _ (Cert.KernelIdeal.Gen.mem_uc _ (by decide))).trans (Cert.KernelIdeal.Gen.W3_main_arg3 m g c),
      (arg _ (Cert.KernelIdeal.Gen.mem_uc _ (by decide))).trans (Cert.KernelIdeal.Gen.W3_main_arg4 m g c),
      (arg _ (Cert.KernelIdeal.Gen.mem_uc _ (by decide))).trans (Cert.KernelIdeal.Gen.W3_main_arg5 m g c),
      (arg _ (Cert.KernelIdeal.Gen.mem_uc _ (by decide))).trans (Cert.KernelIdeal.Gen.W3_main_arg6 m g c),
      (arg _ (Cert.KernelIdeal.Gen.mem_uc _ (by decide))).trans (Cert.KernelIdeal.Gen.W3_main_arg7 m g c),
      (arg _ (Cert.KernelIdeal.Gen.mem_uc _ (by decide))).trans (Cert.KernelIdeal.Gen.W3_main_arg8 m g c),
      (arg _ (Cert.KernelIdeal.Gen.mem_uc _ (by decide))).trans (Cert.KernelIdeal.Gen.W3_main_arg9 m g c),
      (arg _ (Cert.KernelIdeal.Gen.mem_uc _ (by decide))).trans (Cert.KernelIdeal.Gen.W3_main_arg10 m g c),
      (arg _ (Cert.KernelIdeal.Gen.mem_uc _ (by decide))).trans (Cert.KernelIdeal.Gen.W3_main_arg11 m g c),
      (arg _ (Cert.KernelIdeal.Gen.mem_uc _ (by decide))).trans (Cert.KernelIdeal.Gen.W3_main_arg12 m g c),
      (arg _ (Cert.KernelIdeal.Gen.mem_uc _ (by decide))).trans (Cert.KernelIdeal.Gen.W3_main_arg13 m g c),
      (arg _ (Cert.KernelIdeal.Gen.mem_uc _ (by decide))).trans (Cert.KernelIdeal.Gen.W3_main_arg14 m g c),
      (arg _ (Cert.KernelIdeal.Gen.mem_uc _ (by decide))).trans (Cert.KernelIdeal.Gen.W3_main_arg15 m g c)⟩
  · refine (θ_run _ _ _).mono (fun r hr c => ⟨(hr c).1.trans ?_, (hr c).2⟩) (Cert.ReferenceIdeal.Value.run m' g')
    obtain ⟨a0, _, a2, a3, a4, a5, a6, a7, a8, a9, a10, a11, _, _, _, _⟩ := hag c
    obtain ⟨hb1, hba, hbb, hbcls, hbc, hWc⟩ := @Cert.Pre_biases.read Cert.Pre_biases.facts _ _ _ _ _ _ _ _ _ _ _ _ _ _ _ _ (hpre c)
    rw [Cert.ReferenceIdeal.RefValue.res_eq, a0, a2, a3, a4, a5, a6, a7, a8, a9, a10, a11]
    exact (Cert.Same.result_eq m g c hb1 hba hbb hbcls hbc hWc).symm

/-- The reference ends with its arguments unchanged; it has no counters. -/
theorem frame_reference : quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run m g)

/-- Every claim of the certificate. -/
theorem claim : Cert.Claim := ⟨Cert.Kernel.Gen.facts, Cert.KernelIdeal.Gen.facts, Cert.ReferenceIdeal.Gen.facts, Cert.Pre_biases.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial, trivial, algebraic⟩

end Cert.Proof

end
